-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4096x4096 : Shape := ⟨3, ![2, 4096, 4096]⟩
abbrev S64x4096 : Shape := ⟨2, ![64, 4096]⟩
abbrev S8192x4096 : Shape := ⟨2, ![8192, 4096]⟩
abbrev S64x1 : Shape := ⟨2, ![64, 1]⟩
abbrev S64x128 : Shape := ⟨2, ![64, 128]⟩
abbrev S64x8 : Shape := ⟨2, ![64, 8]⟩
abbrev S64x4 : Shape := ⟨2, ![64, 4]⟩
abbrev S64x2 : Shape := ⟨2, ![64, 2]⟩
abbrev S1x64 : Shape := ⟨2, ![1, 64]⟩
abbrev S8192x64 : Shape := ⟨2, ![8192, 64]⟩
abbrev S8192x1 : Shape := ⟨2, ![8192, 1]⟩
abbrev S1024x1024 : Shape := ⟨2, ![1024, 1024]⟩
abbrev S64x1024 : Shape := ⟨2, ![64, 1024]⟩
abbrev S1024x64 : Shape := ⟨2, ![1024, 64]⟩
abbrev S1024x1 : Shape := ⟨2, ![1024, 1]⟩
abbrev S1024x128 : Shape := ⟨2, ![1024, 128]⟩
abbrev S1024x8 : Shape := ⟨2, ![1024, 8]⟩
abbrev S1024x4 : Shape := ⟨2, ![1024, 4]⟩
abbrev S1024x2 : Shape := ⟨2, ![1024, 2]⟩
abbrev S1024 : Shape := ⟨1, ![1024]⟩
abbrev S2x4096x64 : Shape := ⟨3, ![2, 4096, 64]⟩
abbrev S2x4096 : Shape := ⟨2, ![2, 4096]⟩

abbrev nBuf : Space → Nat
  | .hbm => 9
  | .vmem => 13
  | .smem => 0
  | _ => 0

abbrev bufTy : (tb : Table) → Fin (tcTables nBuf tb) → BufTy
  | .hbm, ⟨0, _⟩ => ⟨S2x4096x4096, .f32⟩
  | .hbm, ⟨1, _⟩ => ⟨S64x4096, .f32⟩
  | .hbm, ⟨2, _⟩ => ⟨S8192x4096, .f32⟩
  | .hbm, ⟨3, _⟩ => ⟨S64x1, .f32⟩
  | .hbm, ⟨4, _⟩ => ⟨S1x64, .f32⟩
  | .hbm, ⟨5, _⟩ => ⟨S8192x64, .f32⟩
  | .hbm, ⟨6, _⟩ => ⟨S8192x1, .i32⟩
  | .hbm, ⟨7, _⟩ => ⟨S2x4096x64, .f32⟩
  | .hbm, ⟨8, _⟩ => ⟨S2x4096, .i32⟩
  | .local _ .vmem, ⟨0, _⟩ => ⟨S64x4096, .f32⟩
  | .local _ .vmem, ⟨1, _⟩ => ⟨S64x1, .f32⟩
  | .local _ .vmem, ⟨2, _⟩ => ⟨S1024x1024, .f32⟩
  | .local _ .vmem, ⟨3, _⟩ => ⟨S1024x1024, .f32⟩
  | .local _ .vmem, ⟨4, _⟩ => ⟨S64x1024, .f32⟩
  | .local _ .vmem, ⟨5, _⟩ => ⟨S64x1024, .f32⟩
  | .local _ .vmem, ⟨6, _⟩ => ⟨S1x64, .f32⟩
  | .local _ .vmem, ⟨7, _⟩ => ⟨S1024x64, .f32⟩
  | .local _ .vmem, ⟨8, _⟩ => ⟨S1024x64, .f32⟩
  | .local _ .vmem, ⟨9, _⟩ => ⟨S1024x1, .i32⟩
  | .local _ .vmem, ⟨10, _⟩ => ⟨S1024x1, .i32⟩
  | .local _ .vmem, ⟨11, _⟩ => ⟨S1024x128, .f32⟩
  | .local _ .vmem, ⟨12, _⟩ => ⟨S1024x64, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc1_stg4_0 : Ref sig .tc := ⟨.vmem, 9, rfl⟩
abbrev cc1_stg4_1 : Ref sig .tc := ⟨.vmem, 10, rfl⟩
abbrev cc1_scratch0 : Ref sig .tc := ⟨.vmem, 11, rfl⟩
abbrev cc1_scratch1 : Ref sig .tc := ⟨.vmem, 12, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem3_0 : DmaSem sig := 7
abbrev cc1_sem3_1 : DmaSem sig := 8
abbrev cc1_sem4_0 : DmaSem sig := 9
abbrev cc1_sem4_1 : DmaSem sig := 10

abbrev nD : Nat := 1
abbrev τ : Topo := Topo.v7x

variable {F : FTy → Type} [FloatOps F]

abbrev grid0 : Pipeline.Grid := .none

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨2, ![8, 4], ![false, false]⟩

def k1_cond3 (i : grid1.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_6 : BitVec 32 := 0#32
  let v12 : BitVec 1 := Scalar.cmpi .ne v11 c0_i32_6
  v12

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S64x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]
-- ==== ReferenceIdeal.lean ====
abbrev S2x4096x4096 : Shape := ⟨3, ![2, 4096, 4096]⟩
abbrev S64x4096 : Shape := ⟨2, ![64, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S64 : Shape := ⟨1, ![64]⟩
abbrev S1x64 : Shape := ⟨2, ![1, 64]⟩
abbrev S8192x64 : Shape := ⟨2, ![8192, 64]⟩
abbrev S4096x64 : Shape := ⟨2, ![4096, 64]⟩
abbrev S2x4096x64 : Shape := ⟨3, ![2, 4096, 64]⟩
abbrev S2x4096 : Shape := ⟨2, ![2, 4096]⟩

abbrev nBuf : Space → Nat
  | .hbm => 47
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S64x4096, .f32⟩
  | .hbm, ⟨2, _⟩ => ⟨S8192x4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S64x4096, .f32⟩
  | .hbm, ⟨8, _⟩ => ⟨S_, .f32⟩
  | .hbm, ⟨9, _⟩ => ⟨S64, .f32⟩
  | .hbm, ⟨10, _⟩ => ⟨S1x64, .f32⟩
  | .hbm, ⟨11, _⟩ => ⟨S8192x64, .f32⟩
  | .hbm, ⟨12, _⟩ => ⟨S8192x64, .f32⟩
  | .hbm, ⟨13, _⟩ => ⟨S8192x64, .f32⟩
  | .hbm, ⟨14, _⟩ => ⟨S4096x64, .f32⟩
  | .hbm, ⟨15, _⟩ => ⟨S8192x64, .f32⟩
  | .hbm, ⟨16, _⟩ => ⟨S_, .f32⟩
  | .hbm, ⟨17, _⟩ => ⟨S8192x64, .f32⟩
  | .hbm, ⟨18, _⟩ => ⟨S8192x64, .f32⟩
  | .hbm, ⟨19, _⟩ => ⟨S8192x64, .f32⟩
  | .hbm, ⟨20, _⟩ => ⟨S_, .f32⟩
  | .hbm, ⟨21, _⟩ => ⟨S_, .f32⟩
  | .hbm, ⟨22, _⟩ => ⟨S8192x64, .f32⟩
  | .hbm, ⟨23, _⟩ => ⟨S8192x64, .f32⟩
  | .hbm, ⟨24, _⟩ => ⟨S8192x64, .f32⟩
  | .hbm, ⟨25, _⟩ => ⟨S8192x64, .f32⟩
  | .hbm, ⟨26, _⟩ => ⟨S_, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192x1, .f32⟩
  | .hbm, ⟨32, _⟩ => ⟨S8192x64, .f32⟩
  | .hbm, ⟨33, _⟩ => ⟨S8192x64, .f32⟩
  | .hbm, ⟨34, _⟩ => ⟨S8192x64, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x64, .f32⟩
  | .hbm, ⟨39, _⟩ => ⟨S8192x64, .f32⟩
  | .hbm, ⟨40, _⟩ => ⟨S8192x64, .i32⟩
  | .hbm, ⟨41, _⟩ => ⟨S_, .f32⟩
  | .hbm, ⟨42, _⟩ => ⟨S_, .i32⟩
  | .hbm, ⟨43, _⟩ => ⟨S8192, .f32⟩
  | .hbm, ⟨44, _⟩ => ⟨S8192, .i32⟩
  | .hbm, ⟨45, _⟩ => ⟨S2x4096x64, .f32⟩
  | .hbm, ⟨46, _⟩ => ⟨S2x4096, .i32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call1_v0 : Ref sig .tc := ⟨.hbm, 40, rfl⟩
abbrev main_call1_cst : Ref sig .tc := ⟨.hbm, 41, rfl⟩
abbrev main_call1_c : Ref sig .tc := ⟨.hbm, 42, rfl⟩
abbrev main_call1_v1_0 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]
-- ==== Proof.Bodies.lean ====
/- The two kernel bodies of the program, run once: what each leaves in the buffers it is given, in every case its
   branches distinguish, stated over the values its operations compute (`k0_pay…`, `k1_pay…`). -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.ValueKit
public import Idealize.ShloMosaic.Lib.VecWindow
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The centroid norms -/

/-- The squared norms of the 64 centroids, as the first body computes them from the whole table. -/
def normsOf (x : Vec F S64x4096 .f32) : Vec F S64x1 .f32 :=
  k0_pay1 (k0_pay4 x (k0_pay2 x) (k0_pay3 x)) (k0_pay5 x (k0_pay2 x) (k0_pay3 x)) (k0_pay6 x (k0_pay2 x) (k0_pay3 x))

set_option maxHeartbeats 1000000 in
/-- The first body reads the table and leaves the norms; the table is as it was. -/
theorem norms_body (c : Dev nD) (E : Set ℕ) (arg0 : Memref sig .tc .vmem S64x4096 .f32) (harg0 : arg0.IsWhole)
    (arg1 : Memref sig .tc .vmem S64x1 .f32) (harg1 : arg1.IsWhole) (x : Vec F S64x4096 .f32) (K : PUnit → sProp 𝕄) :
    iprop(owns (c : Thread nD τ) arg0 fullShare x ∗ (∃ d, owns (c : Thread nD τ) arg1 fullShare d)
        ∗ (iprop(owns (c : Thread nD τ) arg0 fullShare x ∗ owns (c : Thread nD τ) arg1 fullShare (normsOf x)) -∗ K ⟨⟩))
      ⊢ wp frame (wpE (defs₀ (F := F)) Variants.none c none) E (cc0__c2_body arg0 harg0 arg1 harg1) K := by
  simp only [cc0__c2_body_eq_skeleton]; unfold cc0__c2_body_skel
  simp only [k0_part1_eq_skeleton, k0_part2_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  refine (View.read_writes_full _ _ _ _ _).trans ?_
  show normsOf (View.ld (arg0.view.read (Elt F) f0) (Rect.unit (s := S64x4096) ![0, 0] S64x4096.size inb_S64x4096_S64x4096_0_0)) = _
  rw [View.ld_unit_lit _ _ (by decide)]

/-! ## The router's branches -/

/-- The body starts a row block afresh: the first of its four column blocks. -/
abbrev isFirst (i : grid1.Coords) : Prop :=
  Scalar.cmpi .ne (Scalar.extui (Scalar.cmpi .eq (BitVec.ofNat 32 (i 1).val) 0#32)) 0#32 = 1#1
/-- The body adds onto what the column blocks before left. -/
abbrev isLater (i : grid1.Coords) : Prop :=
  Scalar.cmpi .ne (Scalar.extui (Scalar.cmpi .sgt (BitVec.ofNat 32 (i 1).val) 0#32)) 0#32 = 1#1
/-- The body closes the row block: the last of its four column blocks. -/
abbrev isLast (i : grid1.Coords) : Prop := k1_cond3 i = 1#1

/-- The first branch runs at a row block's first point. -/
theorem isFirst_iff : ∀ t : Fin cfg1.N, isFirst (grid1.coords t) ↔ t.val % 4 = 0 :=
  (by decide +kernel : ∀ t : Fin grid1.N, isFirst (grid1.coords t) ↔ t.val % 4 = 0)
/-- The second branch runs at its other points. -/
theorem isLater_iff : ∀ t : Fin cfg1.N, isLater (grid1.coords t) ↔ t.val % 4 ≠ 0 :=
  (by decide +kernel : ∀ t : Fin grid1.N, isLater (grid1.coords t) ↔ t.val % 4 ≠ 0)
/-- The third branch runs at its last point. -/
theorem isLast_iff : ∀ t : Fin cfg1.N, isLast (grid1.coords t) ↔ t.val % 4 = 3 :=
  (by decide +kernel : ∀ t : Fin grid1.N, isLast (grid1.coords t) ↔ t.val % 4 = 3)

/-! ## The router body, in its three cases -/

set_option maxHeartbeats 1000000 in
/-- At the first column block the body starts both accumulators from the blocks alone; the outputs are not touched. -/
theorem first_body (c : Dev nD) (E : Set ℕ) (i : grid1.Coords)
    (arg2 : Memref sig .tc .vmem S1024x1024 .f32) (harg2 : arg2.IsWhole) (arg3 : Memref sig .tc .vmem S64x1024 .f32) (harg3 : arg3.IsWhole)
    (arg4 : Memref sig .tc .vmem S1x64 .f32) (harg4 : arg4.IsWhole) (arg5 : Memref sig .tc .vmem S1024x64 .f32) (harg5 : arg5.IsWhole)
    (arg6 : Memref sig .tc .vmem S1024x1 .i32) (harg6 : arg6.IsWhole) (arg7 : Memref sig .tc .vmem S1024x128 .f32) (harg7 : arg7.IsWhole)
    (arg8 : Memref sig .tc .vmem S1024x64 .f32) (harg8 : arg8.IsWhole)
    (h1 : isFirst i) (h2 : ¬isLater i) (h3 : ¬isLast i)
    (x : Vec F S1024x1024 .f32) (y : Vec F S64x1024 .f32) (K : PUnit → sProp 𝕄) :
    iprop(owns (c : Thread nD τ) arg2 fullShare x ∗ owns (c : Thread nD τ) arg3 fullShare y
        ∗ (∃ d, owns (c : Thread nD τ) arg7 fullShare d) ∗ (∃ d, owns (c : Thread nD τ) arg8 fullShare d)
        ∗ (iprop(owns (c : Thread nD τ) arg2 fullShare x ∗ owns (c : Thread nD τ) arg3 fullShare y
          ∗ owns (c : Thread nD τ) arg7 fullShare (k1_pay2 x) ∗ owns (c : Thread nD τ) arg8 fullShare (k1_pay3 x y)) -∗ K ⟨⟩))
      ⊢ wp frame (wpE (defs₀ (F := F)) Variants.none c none) E
          (cc1__router_body i arg2 harg2 arg3 harg3 arg4 harg4 arg5 harg5 arg6 harg6 arg7 harg7 arg8 harg8) K := by
  simp only [cc1__router_body_eq_skeleton]; unfold cc1__router_body_skel
  unfold owns
  iintro ⟨⟨%f2, %hf2, H2⟩, ⟨%f3, %hf3, H3⟩, ⟨%d7, %f7, -, H7⟩, ⟨%d8, %f8, -, H8⟩, Hk⟩
  subst hf2 hf3
  sl_exec (disch := first | sl_exact h1 | sl_exact h2 | sl_exact h3)
  sl_step
  iapply Hk
  isplitl [H2]
  · iexists f2; isplitr; · ipureintro; rfl
    iexact H2
  isplitl [H3]
  · iexists f3; isplitr; · ipureintro; rfl
    iexact H3
  isplitl [H7]
  · iexists _; isplitr
    swap; · iexact H7
    ipureintro
    refine (View.read_writes_full _ _ _ _ _).trans ?_
    show k1_pay2 (View.ld (arg2.view.read (Elt F) f2) (Rect.unit (s := S1024x1024) ![0, 0] S1024x1024.size inb_S1024x1024_S1024x1024_0_0)) = _
    rw [View.ld_unit_lit _ _ (by decide)]
  iexists _; isplitr
  swap; · iexact H8
  ipureintro
  refine (View.read_writes_full _ _ _ _ _).trans ?_
  show k1_pay3 (View.ld (arg2.view.read (Elt F) f2) (Rect.unit (s := S1024x1024) ![0, 0] S1024x1024.size inb_S1024x1024_S1024x1024_0_0))
    (View.ld (arg3.view.read (Elt F) f3) (Rect.unit (s := S64x1024) ![0, 0] S64x1024.size inb_S64x1024_S64x1024_0_0)) = _
  rw [View.ld_unit_lit _ _ (by decide), View.ld_unit_lit _ _ (by decide)]

set_option maxHeartbeats 1000000 in
/-- At a column block between the first and the last the body adds onto both accumulators; the outputs are not touched. -/
theorem middle_body (c : Dev nD) (E : Set ℕ) (i : grid1.Coords)
    (arg2 : Memref sig .tc .vmem S1024x1024 .f32) (harg2 : arg2.IsWhole) (arg3 : Memref sig .tc .vmem S64x1024 .f32) (harg3 : arg3.IsWhole)
    (arg4 : Memref sig .tc .vmem S1x64 .f32) (harg4 : arg4.IsWhole) (arg5 : Memref sig .tc .vmem S1024x64 .f32) (harg5 : arg5.IsWhole)
    (arg6 : Memref sig .tc .vmem S1024x1 .i32) (harg6 : arg6.IsWhole) (arg7 : Memref sig .tc .vmem S1024x128 .f32) (harg7 : arg7.IsWhole)
    (arg8 : Memref sig .tc .vmem S1024x64 .f32) (harg8 : arg8.IsWhole)
    (h1 : ¬isFirst i) (h2 : isLater i) (h3 : ¬isLast i)
    (x : Vec F S1024x1024 .f32) (y : Vec F S64x1024 .f32) (q : Vec F S1024x128 .f32) (d : Vec F S1024x64 .f32) (K : PUnit → sProp 𝕄) :
    iprop(owns (c : Thread nD τ) arg2 fullShare x ∗ owns (c : Thread nD τ) arg3 fullShare y
        ∗ owns (c : Thread nD τ) arg7 fullShare q ∗ owns (c : Thread nD τ) arg8 fullShare d
        ∗ (iprop(owns (c : Thread nD τ) arg2 fullShare x ∗ owns (c : Thread nD τ) arg3 fullShare y
          ∗ owns (c : Thread nD τ) arg7 fullShare (k1_pay4 x q) ∗ owns (c : Thread nD τ) arg8 fullShare (k1_pay5 x y d)) -∗ K ⟨⟩))
      ⊢ wp frame (wpE (defs₀ (F := F)) Variants.none c none) E
          (cc1__router_body i arg2 harg2 arg3 harg3 arg4 harg4 arg5 harg5 arg6 harg6 arg7 harg7 arg8 harg8) K := by
  simp only [cc1__router_body_eq_skeleton]; unfold cc1__router_body_skel
  unfold owns
  iintro ⟨⟨%f2, %hf2, H2⟩, ⟨%f3, %hf3, H3⟩, ⟨%f7, %hf7, H7⟩, ⟨%f8, %hf8, H8⟩, Hk⟩
  subst hf2 hf3 hf7 hf8
  sl_exec (disch := first | sl_exact h1 | sl_exact h2 | sl_exact h3)
  sl_step
  iapply Hk
  isplitl [H2]
  · iexists f2; isplitr; · ipureintro; rfl
    iexact H2
  isplitl [H3]
  · iexists f3; isplitr; · ipureintro; rfl
    iexact H3
  isplitl [H7]
  · iexists _; isplitr
    swap; · iexact H7
    ipureintro
    refine (View.read_writes_full _ _ _ _ _).trans ?_
    show k1_pay4 (View.ld (arg2.view.read (Elt F) f2) (Rect.unit (s := S1024x1024) ![0, 0] S1024x1024.size inb_S1024x1024_S1024x1024_0_0))
      (View.ld (arg7.view.read (Elt F) f7) (Rect.unit (s := S1024x128) ![0, 0] S1024x128.size inb_S1024x128_S1024x128_0_0)) = _
    rw [View.ld_unit_lit _ _ (by decide), View.ld_unit_lit _ _ (by decide)]
  iexists _; isplitr
  swap; · iexact H8
  ipureintro
  refine (View.read_writes_full _ _ _ _ _).trans ?_
  show k1_pay5 (View.ld (arg2.view.read (Elt F) f2) (Rect.unit (s := S1024x1024) ![0, 0] S1024x1024.size inb_S1024x1024_S1024x1024_0_0))
    (View.ld (arg3.view.read (Elt F) f3) (Rect.unit (s := S64x1024) ![0, 0] S64x1024.size inb_S64x1024_S64x1024_0_0))
    (View.ld (arg8.view.read (Elt F) f8) (Rect.unit (s := S1024x64) ![0, 0] S1024x64.size inb_S1024x64_S1024x64_0_0)) = _
  rw [View.ld_unit_lit _ _ (by decide), View.ld_unit_lit _ _ (by decide), View.ld_unit_lit _ _ (by decide)]

set_option maxHeartbeats 1000000 in
/-- At the last column block the body adds onto both accumulators and, from what they then hold and the norms, leaves
    the weights and the index of the nearest centroid. -/
theorem last_body (c : Dev nD) (E : Set ℕ) (i : grid1.Coords)
    (arg2 : Memref sig .tc .vmem S1024x1024 .f32) (harg2 : arg2.IsWhole) (arg3 : Memref sig .tc .vmem S64x1024 .f32) (harg3 : arg3.IsWhole)
    (arg4 : Memref sig .tc .vmem S1x64 .f32) (harg4 : arg4.IsWhole) (arg5 : Memref sig .tc .vmem S1024x64 .f32) (harg5 : arg5.IsWhole)
    (arg6 : Memref sig .tc .vmem S1024x1 .i32) (harg6 : arg6.IsWhole) (arg7 : Memref sig .tc .vmem S1024x128 .f32) (harg7 : arg7.IsWhole)
    (arg8 : Memref sig .tc .vmem S1024x64 .f32) (harg8 : arg8.IsWhole)
    (h1 : ¬isFirst i) (h2 : isLater i) (h3 : isLast i)
    (x : Vec F S1024x1024 .f32) (y : Vec F S64x1024 .f32) (z : Vec F S1x64 .f32) (q : Vec F S1024x128 .f32) (d : Vec F S1024x64 .f32)
    (K : PUnit → sProp 𝕄) :
    iprop(owns (c : Thread nD τ) arg2 fullShare x ∗ owns (c : Thread nD τ) arg3 fullShare y ∗ owns (c : Thread nD τ) arg4 fullShare z
        ∗ (∃ d, owns (c : Thread nD τ) arg5 fullShare d) ∗ (∃ d, owns (c : Thread nD τ) arg6 fullShare d)
        ∗ owns (c : Thread nD τ) arg7 fullShare q ∗ owns (c : Thread nD τ) arg8 fullShare d
        ∗ (iprop(owns (c : Thread nD τ) arg2 fullShare x ∗ owns (c : Thread nD τ) arg3 fullShare y ∗ owns (c : Thread nD τ) arg4 fullShare z
          ∗ owns (c : Thread nD τ) arg5 fullShare (k1_pay7 (k1_pay9 (k1_pay5 x y d) (k1_pay4 x q) z))
          ∗ owns (c : Thread nD τ) arg6 fullShare (k1_pay8 (k1_pay9 (k1_pay5 x y d) (k1_pay4 x q) z))
          ∗ owns (c : Thread nD τ) arg7 fullShare (k1_pay4 x q) ∗ owns (c : Thread nD τ) arg8 fullShare (k1_pay5 x y d)) -∗ K ⟨⟩))
      ⊢ wp frame (wpE (defs₀ (F := F)) Variants.none c none) E
          (cc1__router_body i arg2 harg2 arg3 harg3 arg4 harg4 arg5 harg5 arg6 harg6 arg7 harg7 arg8 harg8) K := by
  simp only [cc1__router_body_eq_skeleton]; unfold cc1__router_body_skel
  simp only [k1_part1_eq_skeleton]
  unfold owns
  iintro ⟨⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  subst hf2 hf3 hf4 hf7 hf8
  have e7 : k1_pay4 (View.ld (arg2.view.read (Elt F) f2) (Rect.unit (s := S1024x1024) ![0, 0] S1024x1024.size inb_S1024x1024_S1024x1024_0_0))
      (View.ld (arg7.view.read (Elt F) f7) (Rect.unit (s := S1024x128) ![0, 0] S1024x128.size inb_S1024x128_S1024x128_0_0))
      = k1_pay4 (arg2.view.read (Elt F) f2) (arg7.view.read (Elt F) f7) := by
    rw [View.ld_unit_lit _ _ (by decide), View.ld_unit_lit _ _ (by decide)]
  have e8 : k1_pay5 (View.ld (arg2.view.read (Elt F) f2) (Rect.unit (s := S1024x1024) ![0, 0] S1024x1024.size inb_S1024x1024_S1024x1024_0_0))
      (View.ld (arg3.view.read (Elt F) f3) (Rect.unit (s := S64x1024) ![0, 0] S64x1024.size inb_S64x1024_S64x1024_0_0))
      (View.ld (arg8.view.read (Elt F) f8) (Rect.unit (s := S1024x64) ![0, 0] S1024x64.size inb_S1024x64_S1024x64_0_0))
      = k1_pay5 (arg2.view.read (Elt F) f2) (arg3.view.read (Elt F) f3) (arg8.view.read (Elt F) f8) := by
    rw [View.ld_unit_lit _ _ (by decide), View.ld_unit_lit _ _ (by decide), View.ld_unit_lit _ _ (by decide)]
  have e9 : k1_pay9
      (View.readCov arg8.view [(⟨Rect.unit (s := S1024x64) ![0, 0] S1024x64.size inb_S1024x64_S1024x64_0_0,
        k1_pay5 (View.ld (arg2.view.read (Elt F) f2) (Rect.unit (s := S1024x1024) ![0, 0] S1024x1024.size inb_S1024x1024_S1024x1024_0_0))
          (View.ld (arg3.view.read (Elt F) f3) (Rect.unit (s := S64x1024) ![0, 0] S64x1024.size inb_S64x1024_S64x1024_0_0))
          (View.ld (arg8.view.read (Elt F) f8) (Rect.unit (s := S1024x64) ![0, 0] S1024x64.size inb_S1024x64_S1024x64_0_0))⟩ :
          View.Piece (Elt F) S1024x64 .f32)] (Rect.unit (s := S1024x64) ![0, 0] S1024x64.size inb_S1024x64_S1024x64_0_0).toLoadRect)
      (View.readCov arg7.view [(⟨Rect.unit (s := S1024x128) ![0, 0] S1024x128.size inb_S1024x128_S1024x128_0_0,
        k1_pay4 (View.ld (arg2.view.read (Elt F) f2) (Rect.unit (s := S1024x1024) ![0, 0] S1024x1024.size inb_S1024x1024_S1024x1024_0_0))
          (View.ld (arg7.view.read (Elt F) f7) (Rect.unit (s := S1024x128) ![0, 0] S1024x128.size inb_S1024x128_S1024x128_0_0))⟩ :
          View.Piece (Elt F) S1024x128 .f32)] (Rect.unit (s := S1024x128) ![0, 0] S1024x128.size inb_S1024x128_S1024x128_0_0).toLoadRect)
      (View.ld (arg4.view.read (Elt F) f4) (Rect.unit (s := S1x64) ![0, 0] S1x64.size inb_S1x64_S1x64_0_0))
      = k1_pay9 (k1_pay5 (arg2.view.read (Elt F) f2) (arg3.view.read (Elt F) f3) (arg8.view.read (Elt F) f8))
          (k1_pay4 (arg2.view.read (Elt F) f2) (arg7.view.read (Elt F) f7)) (arg4.view.read (Elt F) f4) := by
    rw [View.readCov_unit_lit _ _ _ (by decide), View.readCov_unit_lit _ _ _ (by decide), e7, e8, View.ld_unit_lit _ _ (by decide)]
  sl_exec (disch := first | sl_exact h1 | sl_exact h2 | sl_exact h3)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact (View.read_writes_full _ _ _ _ _).trans (congrArg k1_pay7 e9)
  isplitl [H6]
  · iexists _; isplitr
    swap; · iexact H6
    ipureintro
    exact (View.read_writes_full _ _ _ _ _).trans (congrArg k1_pay8 e9)
  isplitl [H7]
  · iexists _; isplitr
    swap; · iexact H7
    ipureintro
    exact (View.read_writes_full _ _ _ _ _).trans e7
  iexists _; isplitr
  swap; · iexact H8
  ipureintro
  exact (View.read_writes_full _ _ _ _ _).trans e8

end Cert.KernelIdeal.Router

end
-- ==== Proof.Data.lean ====
/- What each pipeline of the program holds at every point of its grid, and that its body keeps it so. Region 0 computes
   the centroid norms in one point; region 1 walks 8 row blocks of 4 column blocks, carrying two accumulators in
   scratch along a row block and writing its two results at the last column block. -/
module

public import proofs.«01_k».proof.Proof.Bodies

@[expose] public section

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when a region is entered
variable (V : (c : Dev nD) → (b : Ref sig .tc) → Buf (Elt F) ((c : Thread nD τ).loc b))

/-! ## Region 0 -/

/-- The block of window `w` at the one point, read off its array. -/
def blkN (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's data: the table's buffer keeps its block, the result's buffer gets the norms. -/
def datN (c : Dev nD) : Dat τ (Elt F) Unit ℕ (UR sig nD τ) ℕ cfg0 c where
  A w := V c (Pipeline.arrRef spec0 w)
  after w t := match w with
    | ⟨0, _⟩ => blkN V c 0 t
    | ⟨1, _⟩ => normsOf (blkN V c 0 t)
  Φ _ := Pipeline.ΦA spec0 c
  q _ := fullShare
  owed _ := 0

/-- Region 0's arrays at entry. -/
theorem datN_A (c : Dev nD) (w : Fin cfg0.W) : (datN V c).A w = V c (Pipeline.arrRef spec0 w) := by dsimp only [datN]
/-- Its input block is left as it was. -/
theorem datN_after0 (c : Dev nD) (t : Fin cfg0.N) : (datN V c).after 0 t = blkN V c 0 t := by dsimp only [datN]
/-- Its output block is the norms of the input block. -/
theorem datN_after1 (c : Dev nD) (t : Fin cfg0.N) : (datN V c).after 1 t = normsOf (blkN V c 0 t) := by dsimp only [datN]

/-- Before the body the table's buffer holds its block. -/
theorem datN_before0 (c : Dev nD) (t : Fin cfg0.N) (d) : (datN V c).before 0 t d = blkN V c 0 t :=
  ((datN V c).before_in_eq_fetched 0 rfl (fun _ => rfl) (fun _ _ _ => rfl)
      (fun t => by rw [datN_after0]; unfold Dat.blockOf blkN; rw [datN_A]) t d).trans
    (by unfold Dat.fetched Dat.blockOf blkN; rw [datN_A]; rfl)

/-- The norms' body meets region 0's data. -/
theorem bodyN (c : Dev nD) (t : Fin cfg0.N) :
    iprop((datN V c).Φ t.castSucc ∗ (datN V c).owesAt () t.castSucc
      ∗ (∃ d, owns (c : Thread nD τ) (st0_0 t) fullShare ((datN V c).before 0 t d))
      ∗ (∃ d, owns (c : Thread nD τ) (st0_1 t) fullShare ((datN V c).before 1 t d)))
    ⊢ wp frame (wpE (defs₀ (F := F)) Variants.none c none) Set.univ (bodyAt0 t) (fun _ =>
      iprop((datN V c).Φ t.succ ∗ (datN V c).owesAt () t.succ
        ∗ owns (c : Thread nD τ) (st0_0 t) fullShare ((datN V c).after 0 t)
        ∗ owns (c : Thread nD τ) (st0_1 t) fullShare ((datN V c).after 1 t))) := by
  unfold bodyAt0
  simp only [datN_before0]
  rw [show (datN V c).Φ t.succ = (datN V c).Φ t.castSucc from rfl,
    show (datN V c).owesAt () t.succ = (datN V c).owesAt () t.castSucc from rfl, datN_after0, datN_after1]
  iintro ⟨HΦ, Ho, ⟨%d0, H0⟩, ⟨%d1, H1⟩⟩
  iapply (norms_body c Set.univ _ _ _ _ (blkN V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body of region 0 at a point. -/
theorem rowN (t : Fin cfg0.N) : defs₀ (F := F) .tc cfg0.body (cfg0.bodyArgs t (cfg0.slots t)) = bodyAt0 t := by
  unfold defs₀; rw [Defs.onTc_tc]

/-- Region 0's obligation. -/
theorem obligationN (c : Dev nD) : BodyObligation (datN (F := F) V c) (defs₀ (F := F)) Variants.none () Set.univ := fun t => by
  rw [bigSep_W0, bigSep_W0, rowN]
  exact triple_restated (bodyN V c t) rfl .rfl fun _ => .rfl

/-! ## Region 1 -/

/-- The block of window `w` at point `t`, read off its array. -/
def blkR (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three input blocks at their literal shapes: of the tokens, of the centroids, and the norms' row. -/
abbrev xBlk (c : Dev nD) (t : Fin cfg1.N) : Vec F S1024x1024 .f32 := blkR V c 0 t
/-- The tile of centroids at a point. -/
abbrev cBlk (c : Dev nD) (t : Fin cfg1.N) : Vec F S64x1024 .f32 := blkR V c 1 t
/-- The norms at a point. -/
abbrev nBlk (c : Dev nD) (t : Fin cfg1.N) : Vec F S1x64 .f32 := blkR V c 2 t

/-- The accumulators after point `n`: the lane sums of squares of the row block and its products with the centroids,
    over the column blocks so far. They start afresh at each first column block. -/
def sums (c : Dev nD) : (n : ℕ) → n < cfg1.N → Vec F S1024x128 .f32 × Vec F S1024x64 .f32
  | 0, h => (k1_pay2 (xBlk V c ⟨0, h⟩), k1_pay3 (xBlk V c ⟨0, h⟩) (cBlk V c ⟨0, h⟩))
  | n + 1, h =>
    if (n + 1) % 4 = 0 then (k1_pay2 (xBlk V c ⟨n + 1, h⟩), k1_pay3 (xBlk V c ⟨n + 1, h⟩) (cBlk V c ⟨n + 1, h⟩))
    else (k1_pay4 (xBlk V c ⟨n + 1, h⟩) (sums c n (Nat.lt_of_succ_lt h)).1,
      k1_pay5 (xBlk V c ⟨n + 1, h⟩) (cBlk V c ⟨n + 1, h⟩) (sums c n (Nat.lt_of_succ_lt h)).2)

/-- The sums after a row block's first point. -/
theorem sums_first (c : Dev nD) (t : Fin cfg1.N) (h : t.val % 4 = 0) :
    sums V c t.val t.isLt = (k1_pay2 (xBlk V c t), k1_pay3 (xBlk V c t) (cBlk V c t)) := by
  obtain ⟨n, hn⟩ := t
  cases n with
  | zero => rfl
  | succ n => exact if_pos h

/-- The sums after its other points. -/
theorem sums_later (c : Dev nD) (k : ℕ) (hk : k + 1 < cfg1.N) (h : (k + 1) % 4 ≠ 0) :
    sums V c (k + 1) hk = (k1_pay4 (xBlk V c ⟨k + 1, hk⟩) (sums V c k (Nat.lt_of_succ_lt hk)).1,
      k1_pay5 (xBlk V c ⟨k + 1, hk⟩) (cBlk V c ⟨k + 1, hk⟩) (sums V c k (Nat.lt_of_succ_lt hk)).2) :=
  if_neg h

/-- The squared distances the body forms from the accumulators and the norms at point `t`. -/
def dist2 (c : Dev nD) (t : Fin cfg1.N) : FVec F S1024x64 .f32 :=
  k1_pay9 (sums V c t.val t.isLt).2 (sums V c t.val t.isLt).1 (nBlk V c t)

/-- The two scratch buffers the accumulators live in. -/
abbrev scrQ : Memref sig .tc .vmem S1024x128 .f32 := Memref.whole cc1_scratch0
/-- The scratch that holds the products. -/
abbrev scrD : Memref sig .tc .vmem S1024x64 .f32 := Memref.whole cc1_scratch1

/-- Between points: the accumulators hold what the point before (if any) left, region 0's buffers hold anything, the
    generator register is at some state. -/
def between (c : Dev nD) (n : ℕ) : sProp 𝕄 :=
  iprop((∃ q d, ⌜∀ (k : ℕ) (h : k < cfg1.N), n = k + 1 → q = (sums V c k h).1 ∧ d = (sums V c k h).2⌝
      ∗ owns (c : Thread nD τ) scrQ fullShare q ∗ owns (c : Thread nD τ) scrD fullShare d)
    ∗ ((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f))
    ∗ (∃ r, prngReg c r))

/-- Region 1's data: the inputs' buffers keep their blocks; at a row block's last point the results' buffers get the
    weights and the indices. -/
def datR (c : Dev nD) : Dat τ (Elt F) Unit ℕ (UR sig nD τ) ℕ cfg1 c where
  A w := V c (Pipeline.arrRef spec1 w)
  after w t := match w with
    | ⟨0, _⟩ => blkR V c 0 t
    | ⟨1, _⟩ => blkR V c 1 t
    | ⟨2, _⟩ => blkR V c 2 t
    | ⟨3, _⟩ => k1_pay7 (dist2 V c t)
    | ⟨4, _⟩ => k1_pay8 (dist2 V c t)
  Φ t := between V c t.val
  q _ := fullShare
  owed _ := 0

/-- Region 1's arrays at entry. -/
theorem datR_A (c : Dev nD) (w : Fin cfg1.W) : (datR V c).A w = V c (Pipeline.arrRef spec1 w) := by dsimp only [datR]
/-- Its block of tokens is left as it was. -/
theorem datR_after0 (c : Dev nD) (t : Fin cfg1.N) : (datR V c).after 0 t = blkR V c 0 t := by dsimp only [datR]
/-- Its block of centroids is left as it was. -/
theorem datR_after1 (c : Dev nD) (t : Fin cfg1.N) : (datR V c).after 1 t = blkR V c 1 t := by dsimp only [datR]
/-- Its block of norms is left as it was. -/
theorem datR_after2 (c : Dev nD) (t : Fin cfg1.N) : (datR V c).after 2 t = blkR V c 2 t := by dsimp only [datR]
/-- The weights' block at a point that writes it. -/
theorem datR_after3 (c : Dev nD) (t : Fin cfg1.N) : (datR V c).after 3 t = k1_pay7 (dist2 V c t) := by dsimp only [datR]
/-- The indices' block at a point that writes it. -/
theorem datR_after4 (c : Dev nD) (t : Fin cfg1.N) : (datR V c).after 4 t = k1_pay8 (dist2 V c t) := by dsimp only [datR]

/-- Before the body each input's buffer holds its block. -/
theorem datR_before0 (c : Dev nD) (t : Fin cfg1.N) (d) : (datR V c).before 0 t d = blkR V c 0 t :=
  ((datR V c).before_in_eq_fetched 0 rfl (fun _ => rfl) (fun _ _ _ => rfl)
      (fun t => by rw [datR_after0]; unfold Dat.blockOf blkR; rw [datR_A]) t d).trans
    (by unfold Dat.fetched Dat.blockOf blkR; rw [datR_A]; rfl)
/-- The block of centroids a point finds. -/
theorem datR_before1 (c : Dev nD) (t : Fin cfg1.N) (d) : (datR V c).before 1 t d = blkR V c 1 t :=
  ((datR V c).before_in_eq_fetched 1 rfl (fun _ => rfl) (fun _ _ _ => rfl)
      (fun t => by rw [datR_after1]; unfold Dat.blockOf blkR; rw [datR_A]) t d).trans
    (by unfold Dat.fetched Dat.blockOf blkR; rw [datR_A]; rfl)
/-- The block of norms a point finds. -/
theorem datR_before2 (c : Dev nD) (t : Fin cfg1.N) (d) : (datR V c).before 2 t d = blkR V c 2 t :=
  ((datR V c).before_in_eq_fetched 2 rfl (fun _ => rfl) (fun _ _ _ => rfl)
      (fun t => by rw [datR_after2]; unfold Dat.blockOf blkR; rw [datR_A]) t d).trans
    (by unfold Dat.fetched Dat.blockOf blkR; rw [datR_A]; rfl)

/-- The results' windows are in use at a row block's last point only, and are written back there only. -/
theorem idle3 : ∀ t : Fin cfg1.N, t.val % 4 ≠ 3 → cfg1.idle 3 (grid1.coords t) = true ∧ (cfg1.win 3).flush t = false := by decide +kernel
/-- The same for the indices' window. -/
theorem idle4 : ∀ t : Fin cfg1.N, t.val % 4 ≠ 3 → cfg1.idle 4 (grid1.coords t) = true ∧ (cfg1.win 4).flush t = false := by decide +kernel
/-- A row block's last point writes the weights. -/
theorem live3 : ∀ t : Fin cfg1.N, t.val % 4 = 3 → cfg1.idle 3 (grid1.coords t) = false := by decide +kernel
/-- It writes the indices as well. -/
theorem live4 : ∀ t : Fin cfg1.N, t.val % 4 = 3 → cfg1.idle 4 (grid1.coords t) = false := by decide +kernel

/-- A window in use leaves what the data say. -/
theorem leaves_live (c : Dev nD) (w : Fin cfg1.W) (t : Fin cfg1.N) (h : cfg1.idle w (grid1.coords t) = false) :
    (datR V c).leavesExact w t = owns (c : Thread nD τ) ((cfg1.win w).stage (cfg1.slots t w)) fullShare ((datR V c).after w t) := by
  unfold Dat.leavesExact; rw [h]

/-- The scratch as the region is entered. -/
theorem between_zero (c : Dev nD) : Pipeline.ΦA spec1 c ⊢ between V c 0 := by
  unfold Pipeline.ΦA between; rw [scopedRest1_eq]; simp only [scrQ, scrD, owns_whole]
  iintro ⟨⟨H0, H1, ⟨%q, HQ⟩, ⟨%d, HD⟩⟩, Hg⟩
  isplitl [HQ HD]
  · iexists q; iexists d
    isplitr; · ipureintro; exact fun k _ h => absurd h (by omega)
    isplitl [HQ]; · iexact HQ
    iexact HD
  isplitl [H0 H1]
  · isplitl [H0]; · iexact H0
    iexact H1
  iexact Hg

/-- The scratch as the region is left. -/
theorem between_out (c : Dev nD) (n : ℕ) : between V c n ⊢ Pipeline.ΦA spec1 c := by
  unfold Pipeline.ΦA between; rw [scopedRest1_eq]; simp only [scrQ, scrD, owns_whole]
  iintro ⟨⟨%q, %d, -, HQ, HD⟩, ⟨H0, H1⟩, Hg⟩
  isplitr [Hg]
  · isplitl [H0]; · iexact H0
    isplitl [H1]; · iexact H1
    isplitl [HQ]; · iexists q; iexact HQ
    iexists d; iexact HD
  iexact Hg

/-- What the router's body is given at point `t`. -/
def givenR (c : Dev nD) (t : Fin cfg1.N) : sProp 𝕄 :=
  iprop((datR V c).Φ t.castSucc ∗ (datR V c).owesAt () t.castSucc
    ∗ (∃ d, owns (c : Thread nD τ) (st1_0 t) fullShare ((datR V c).before 0 t d))
    ∗ (∃ d, owns (c : Thread nD τ) (st1_1 t) fullShare ((datR V c).before 1 t d))
    ∗ (∃ d, owns (c : Thread nD τ) (st1_2 t) fullShare ((datR V c).before 2 t d))
    ∗ (∃ d, owns (c : Thread nD τ) (st1_3 t) fullShare ((datR V c).before 3 t d))
    ∗ (∃ d, owns (c : Thread nD τ) (st1_4 t) fullShare ((datR V c).before 4 t d)))

/-- What it must leave. -/
def leftR (c : Dev nD) (t : Fin cfg1.N) : sProp 𝕄 :=
  iprop((datR V c).Φ t.succ ∗ (datR V c).owesAt () t.succ
    ∗ (datR V c).leavesExact 0 t ∗ (datR V c).leavesExact 1 t ∗ (datR V c).leavesExact 2 t
    ∗ (datR V c).leavesExact 3 t ∗ (datR V c).leavesExact 4 t)

/-- The invariant after point `k` from the two accumulators at that point's sums. -/
theorem between_succ (c : Dev nD) (k : ℕ) (h : k < cfg1.N) (q : Vec F S1024x128 .f32) (d : Vec F S1024x64 .f32)
    (e : sums V c k h = (q, d)) :
    iprop((owns (c : Thread nD τ) scrQ fullShare q ∗ owns (c : Thread nD τ) scrD fullShare d)
      ∗ ((∃ f : Buf (Elt F) ((c : Thread nD τ).loc cc0_stg0_0), ((c : Thread nD τ).loc cc0_stg0_0) ↦{fullShare} f)
        ∗ (∃ f : Buf (Elt F) ((c : Thread nD τ).loc cc0_stg1_0), ((c : Thread nD τ).loc cc0_stg1_0) ↦{fullShare} f))
      ∗ (∃ r, prngReg c r)) ⊢ between V c (k + 1) := by
  unfold between
  iintro ⟨⟨HQ, HD⟩, Hs, Hg⟩
  isplitl [HQ HD]
  · iexists q; iexists d
    isplitr
    · ipureintro; intro k' h' hk
      obtain rfl : k = k' := by omega
      rw [e]; exact ⟨rfl, rfl⟩
    isplitl [HQ]; · iexact HQ
    iexact HD
  isplitl [Hs]; · iexact Hs
  iexact Hg

/-- The router's body meets region 1's data, at every point. -/
theorem bodyR (c : Dev nD) (t : Fin cfg1.N) :
    givenR V c t ⊢ wp frame (wpE (defs₀ (F := F)) Variants.none c none) Set.univ (bodyAt1 t) (fun _ => leftR V c t) := by
  unfold givenR leftR bodyAt1
  simp only [datR_before0, datR_before1, datR_before2]
  rw [show (datR V c).owesAt () t.succ = (datR V c).owesAt () t.castSucc from rfl,
    show (datR V c).Φ t.succ = between V c (t.val + 1) from rfl, show (datR V c).Φ t.castSucc = between V c t.val from rfl,
    leaves_live V c 0 t rfl, leaves_live V c 1 t rfl, leaves_live V c 2 t rfl, datR_after0, datR_after1, datR_after2]
  by_cases h3 : t.val % 4 = 3
  · have h0 : t.val % 4 ≠ 0 := by omega
    rw [leaves_live V c 3 t (live3 t h3), leaves_live V c 4 t (live4 t h3), datR_after3, datR_after4]
    obtain ⟨n, hn⟩ := t
    obtain ⟨k, rfl⟩ : ∃ k, n = k + 1 := ⟨n - 1, by simp only at h3; omega⟩
    have e := sums_later V c k hn h0
    rw [show between V c (⟨k + 1, hn⟩ : Fin cfg1.N).val = between V c (k + 1) from rfl]
    unfold dist2
    rw [show sums V c (⟨k + 1, hn⟩ : Fin cfg1.N).val (⟨k + 1, hn⟩ : Fin cfg1.N).isLt = sums V c (k + 1) hn from rfl, e]
    conv_lhs => unfold between
    iintro ⟨⟨⟨%q, %d, %hqd, HQ, HD⟩, Hs, Hg⟩, Ho, ⟨%d0, H0⟩, ⟨%d1, H1⟩, ⟨%d2, H2⟩, ⟨%d3, H3⟩, ⟨%d4, H4⟩⟩
    obtain ⟨rfl, rfl⟩ := hqd k (Nat.lt_of_succ_lt hn) rfl
    iapply (last_body c Set.univ (grid1.coords ⟨k + 1, hn⟩) _ _ _ _ _ _ _ _ _ _ _ _ _ _ (fun h => h0 ((isFirst_iff _).mp h))
      ((isLater_iff _).mpr h0) ((isLast_iff _).mpr h3) (xBlk V c ⟨k + 1, hn⟩) (cBlk V c ⟨k + 1, hn⟩) (nBlk V c ⟨k + 1, hn⟩) _ _ _)
    isplitl [H0]; · iexact H0
    isplitl [H1]; · iexact H1
    isplitl [H2]; · iexact H2
    isplitl [H3]; · iexists _; iexact H3
    isplitl [H4]; · iexists _; iexact H4
    isplitl [HQ]; · iexact HQ
    isplitl [HD]; · iexact HD
    iintro ⟨H0, H1, H2, H3, H4, HQ, HD⟩
    isplitl [HQ HD Hs Hg]
    · iapply (between_succ V c (k + 1) hn _ _ e)
      isplitl [HQ HD]
      · isplitl [HQ]; · iexact HQ
        iexact HD
      isplitl [Hs]; · iexact Hs
      iexact Hg
    isplitl [Ho]; · iexact Ho
    isplitl [H0]; · iexact H0
    isplitl [H1]; · iexact H1
    isplitl [H2]; · iexact H2
    isplitl [H3]; · iexact H3
    iexact H4
  · rw [Dat.leavesExact_idle (datR V c) 3 t (idle3 t h3).1 (idle3 t h3).2, Dat.leavesExact_idle (datR V c) 4 t (idle4 t h3).1 (idle4 t h3).2]
    by_cases h0 : t.val % 4 = 0
    · conv_lhs => unfold between
      iintro ⟨⟨⟨%q, %d, -, HQ, HD⟩, Hs, Hg⟩, Ho, ⟨%d0, H0⟩, ⟨%d1, H1⟩, ⟨%d2, H2⟩, ⟨%d3, H3⟩, ⟨%d4, H4⟩⟩
      iapply (first_body c Set.univ (grid1.coords t) _ _ _ _ _ _ _ _ _ _ _ _ _ _ ((isFirst_iff t).mpr h0)
        (fun h => (isLater_iff t).mp h h0) (fun h => h3 ((isLast_iff t).mp h)) (xBlk V c t) (cBlk V c t) _)
      isplitl [H0]; · iexact H0
      isplitl [H1]; · iexact H1
      isplitl [HQ]; · iexists _; iexact HQ
      isplitl [HD]; · iexists _; iexact HD
      iintro ⟨H0, H1, HQ, HD⟩
      isplitl [HQ HD Hs Hg]
      · iapply (between_succ V c t.val t.isLt _ _ (sums_first V c t h0))
        isplitl [HQ HD]
        · isplitl [HQ]; · iexact HQ
          iexact HD
        isplitl [Hs]; · iexact Hs
        iexact Hg
      isplitl [Ho]; · iexact Ho
      isplitl [H0]; · iexact H0
      isplitl [H1]; · iexact H1
      isplitl [H2]; · iexact H2
      isplitl [H3]; · iexists _; iexact H3
      iexists _; iexact H4
    · obtain ⟨n, hn⟩ := t
      obtain ⟨k, rfl⟩ : ∃ k, n = k + 1 := ⟨n - 1, by simp only at h0; omega⟩
      have e := sums_later V c k hn h0
      rw [show between V c (⟨k + 1, hn⟩ : Fin cfg1.N).val = between V c (k + 1) from rfl]
      conv_lhs => unfold between
      iintro ⟨⟨⟨%q, %d, %hqd, HQ, HD⟩, Hs, Hg⟩, Ho, ⟨%d0, H0⟩, ⟨%d1, H1⟩, ⟨%d2, H2⟩, ⟨%d3, H3⟩, ⟨%d4, H4⟩⟩
      obtain ⟨rfl, rfl⟩ := hqd k (Nat.lt_of_succ_lt hn) rfl
      iapply (middle_body c Set.univ (grid1.coords ⟨k + 1, hn⟩) _ _ _ _ _ _ _ _ _ _ _ _ _ _ (fun h => h0 ((isFirst_iff _).mp h))
        ((isLater_iff _).mpr h0) (fun h => h3 ((isLast_iff _).mp h)) (xBlk V c ⟨k + 1, hn⟩) (cBlk V c ⟨k + 1, hn⟩) _ _ _)
      isplitl [H0]; · iexact H0
      isplitl [H1]; · iexact H1
      isplitl [HQ]; · iexact HQ
      isplitl [HD]; · iexact HD
      iintro ⟨H0, H1, HQ, HD⟩
      isplitl [HQ HD Hs Hg]
      · iapply (between_succ V c (k + 1) hn _ _ e)
        isplitl [HQ HD]
        · isplitl [HQ]; · iexact HQ
          iexact HD
        isplitl [Hs]; · iexact Hs
        iexact Hg
      isplitl [Ho]; · iexact Ho
      isplitl [H0]; · iexact H0
      isplitl [H1]; · iexact H1
      isplitl [H2]; · iexact H2
      isplitl [H3]; · iexists _; iexact H3
      iexists _; iexact H4

/-- The body of region 1 at a point. -/
theorem rowR (t : Fin cfg1.N) : defs₀ (F := F) .tc cfg1.body (cfg1.bodyArgs t (cfg1.slots t)) = bodyAt1 t := by
  unfold defs₀; rw [Defs.onTc_tc]

/-- Region 1's obligation. -/
theorem obligationR (c : Dev nD) : BodyObligation (datR (F := F) V c) (defs₀ (F := F)) Variants.none () Set.univ := fun t => by
  rw [bigSep_W1, bigSep_W1, rowR]
  exact triple_restated (bodyR V c t) rfl .rfl fun _ => .rfl

end Cert.KernelIdeal.Router

end
-- ==== Proof.Launch.lean ====
/- The whole program, from launch to return: three stretches of reshapes around the two regions. From any memory with
   zero counters every execution ends with each array at the contents `at5`, a fold of the launch memory through the five
   items, and every counter at zero. -/
module

public import proofs.«01_k».proof.Proof.Data
public import proofs.«01_k».proof.Proof.Gen.KernelIdeal.Regions

@[expose] public section

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at each boundary -/

/-- At launch. -/
abbrev at0 : Dev nD → Valuation τ sig (Elt F) := fun c b => m ((c : Dev nD), b)
/-- The tokens made one matrix: region 0 is entered. -/
abbrev at1 : Dev nD → Valuation τ sig (Elt F) := fun c => StableHlo.after hostOps0 (at0 m c)
/-- The same by reference. -/
abbrev ref1 : (c : Dev nD) → (b : Ref sig .tc) → Buf (Elt F) ((c : Thread nD τ).loc b) := fun c b => at1 m c b
/-- Region 0 is left: the norms are written. -/
def at2 (c : Dev nD) : Valuation τ sig (Elt F) :=
  Pipeline.withArrays spec0 c (at1 m c) fun w => (datN (ref1 m) c).arrAt w cfg0.N
/-- The same by reference. -/
abbrev ref2 : (c : Dev nD) → (b : Ref sig .tc) → Buf (Elt F) ((c : Thread nD τ).loc b) := fun c b => at2 m c b
/-- The norms made a row: region 1 is entered. -/
abbrev at3 : Dev nD → Valuation τ sig (Elt F) := fun c => StableHlo.after hostOps1 (at2 m c)
/-- The same by reference. -/
abbrev ref3 : (c : Dev nD) → (b : Ref sig .tc) → Buf (Elt F) ((c : Thread nD τ).loc b) := fun c b => at3 m c b
/-- Region 1 is left: the weights and the indices are written. -/
def at4 (c : Dev nD) : Valuation τ sig (Elt F) :=
  Pipeline.withArrays spec1 c (at3 m c) fun w => (datR (ref3 m) c).arrAt w cfg1.N
/-- The same by reference. -/
abbrev ref4 : (c : Dev nD) → (b : Ref sig .tc) → Buf (Elt F) ((c : Thread nD τ).loc b) := fun c b => at4 m c b
/-- The results in their own shapes: the program returns. -/
abbrev at5 : Dev nD → Valuation τ sig (Elt F) := fun c => StableHlo.after hostOps2 (at4 m c)

/-- The first reshape leaves the other arrays alone. -/
theorem at1_of (c : Dev nD) (r : Ref sig .tc) (h : r ∉ hostOps0_W) : at1 m c (Proc.devRef .tc r) = at0 m c (Proc.devRef .tc r) :=
  StableHlo.after_of_writes_sub hostOps0 _ hostOps0_writes h
/-- The second reshape leaves the other arrays alone. -/
theorem at3_of (c : Dev nD) (r : Ref sig .tc) (h : r ∉ hostOps1_W) : at3 m c (Proc.devRef .tc r) = at2 m c (Proc.devRef .tc r) :=
  StableHlo.after_of_writes_sub hostOps1 _ hostOps1_writes h
/-- The last reshapes leave the other arrays alone. -/
theorem at5_of (c : Dev nD) (r : Ref sig .tc) (h : r ∉ hostOps2_W) : at5 m c (Proc.devRef .tc r) = at4 m c (Proc.devRef .tc r) :=
  StableHlo.after_of_writes_sub hostOps2 _ hostOps2_writes h

/-- A region's arrays hold what its pipeline leaves. -/
theorem at2_arr (c : Dev nD) (w : Fin cfg0.W) :
    at2 m c (Proc.devRef .tc (Pipeline.arrRef spec0 w)) = (datN (ref1 m) c).arrAt w cfg0.N := by
  unfold at2; exact Pipeline.withArrays_arr spec0 launch0.win.arr_inj c _ _ w
/-- The same of region 1. -/
theorem at4_arr (c : Dev nD) (w : Fin cfg1.W) :
    at4 m c (Proc.devRef .tc (Pipeline.arrRef spec1 w)) = (datR (ref3 m) c).arrAt w cfg1.N := by
  unfold at4; exact Pipeline.withArrays_arr spec1 launch1.win.arr_inj c _ _ w
/-- Every other buffer is as it was. -/
theorem at2_ne (c : Dev nD) (b : Ref sig .tc) (hb : ∀ w, Pipeline.arrRef spec0 w ≠ b) :
    at2 m c (Proc.devRef .tc b) = at1 m c (Proc.devRef .tc b) := by
  unfold at2; exact Pipeline.withArrays_of_ne spec0 c _ _ b hb
/-- The same of region 1. -/
theorem at4_ne (c : Dev nD) (b : Ref sig .tc) (hb : ∀ w, Pipeline.arrRef spec1 w ≠ b) :
    at4 m c (Proc.devRef .tc b) = at3 m c (Proc.devRef .tc b) := by
  unfold at4; exact Pipeline.withArrays_of_ne spec1 c _ _ b hb

/-- The tokens' argument is no region's array and no reshape writes it. -/
theorem at5_arg0 (c : Dev nD) : at5 m c (Proc.devRef .tc main_arg0) = m ((c : Thread nD τ).loc main_arg0) := by
  rw [at5_of m c _ (by decide), at4_ne m c _ (by decide), at3_of m c _ (by decide), at2_ne m c _ (by decide), at1_of m c _ (by decide)]
/-- The centroids' argument is read by both regions, through windows that are never written back. -/
theorem at2_arg1 (c : Dev nD) : at2 m c (Proc.devRef .tc main_arg1) = m ((c : Thread nD τ).loc main_arg1) :=
  ((at2_arr m c 0).trans (((datN (ref1 m) c).arrAt_in 0 rfl _).trans (datN_A (ref1 m) c 0))).trans (at1_of m c main_arg1 (by decide))
/-- The centroids are unchanged as region 1 is entered. -/
theorem at3_arg1 (c : Dev nD) : at3 m c (Proc.devRef .tc main_arg1) = m ((c : Thread nD τ).loc main_arg1) :=
  (at3_of m c main_arg1 (by decide)).trans (at2_arg1 m c)
/-- The centroids are unchanged at the end. -/
theorem at5_arg1 (c : Dev nD) : at5 m c (Proc.devRef .tc main_arg1) = m ((c : Thread nD τ).loc main_arg1) :=
  (at5_of m c main_arg1 (by decide)).trans
    (((at4_arr m c 1).trans (((datR (ref3 m) c).arrAt_in 1 rfl _).trans (datR_A (ref3 m) c 1))).trans (at3_arg1 m c))

/-! ## The items as segments of one run -/

/-- No launch has a prefetched table. -/
abbrev noTab : (p : Fin 2) → (pcfgs (F := F) p).Adm := fun p => (cfgs p).toPCfg_adm

/-- Each region's data, at the contents it is entered from. -/
def datOf : (p : Fin 2) → (c : Dev nD) → Dat τ (Elt F) Unit ℕ (UR sig nD τ) ℕ (Pipeline.pin (pcfgs (F := F)) noTab p) c
  | ⟨0, _⟩ => fun c => datN (ref1 m) c
  | ⟨1, _⟩ => fun c => datR (ref3 m) c

/-- No semaphore is given a level. -/
abbrev noLvl : GSem nD τ sig → Finset Unit := fun _ => ∅
/-- The level of every semaphore. -/
abbrev lvl0 : GSem nD τ sig → Unit → ℕ := fun _ _ => 0
/-- What goes along beside the arrays: the generator register, and that nothing is owed. -/
abbrev aside (c : Dev nD) : sProp 𝕄 := iprop((∃ r, prngReg c r) ∗ ∃ W, owes (c : Thread nD τ) (0 : CellTallies nD τ sig Unit) W)

/-- A stretch of reshapes as a segment. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLvl lvl0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W aside

/-- An array outside every scope is held throughout. -/
theorem mem_held (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Region 0 as a segment. -/
def segN : Pipeline.RegionSeg (pcfgs (F := F)) noTab (datOf m) () defs₀ Variants.none noLvl lvl0 0 where
  win := launch0.win.to₀
  block_pos := launch0.block_pos
  stage_whole := launch0.stage_whole
  K := PEmpty
  osem k := k.elim
  ho := Pipeline.OwnSemFacts.none _
  hbody c := (obligationN (ref1 m) c).loose
  hwaits := Pipeline.hwaits_of_owed_zero _ _ _ _ noLvl lvl0 0 fun _ _ => rfl
  pre c := iprop(StableHlo.held (c : Thread nD τ) (Pipeline.ucRefs τ sig) (at1 m c) ∗ aside c)
  post c := iprop(StableHlo.held (c : Thread nD τ) (Pipeline.ucRefs τ sig) (at2 m c) ∗ aside c)
  X c := iprop(∃ r, prngReg c r)
  Y c := iprop(∃ r, prngReg c r)
  Z c := Pipeline.unscopedRest (Ix := Unit) (Name := ℕ) (U := UR sig nD τ) (Lvl := ℕ) spec0 c (ref1 m c)
  hentry c := by
    rw [Pipeline.ownSems0_none]
    have hsplit := Pipeline.arrays_of_unscopedBufs (p := 0) (pcfgs (F := F)) noTab (datOf m) launch0.win launch0.arr_whole c
      ((datOf m 0 c).share_full fun _ => rfl) (ref1 m c) (datN_A (ref1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datOf m 0 c).Φ 0 = Pipeline.ΦA spec0 c from rfl]; unfold Pipeline.ΦA
    iintro ⟨Hp, -, Hr⟩
    isplitl [Hr]; · iexact Hr
    iexact Hp
  hout c := by
    rw [Pipeline.ownSems0_none, show (datOf m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTab (Ix := Unit) (Name := ℕ) (U := UR sig nD τ) (Lvl := ℕ)
      launch0.win launch0.arr_whole c (datOf m) ((datOf m 0 c).share_full fun _ => rfl)
      (ref1 m c) (ref2 m c) ((datOf m 0 c).arrAt · cfg0.N) (fun w => (at2_arr m c w).symm)
      (fun b hb => at2_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: it takes its scratch at anything and gives it back at anything. -/
def segR : Pipeline.RegionSeg (pcfgs (F := F)) noTab (datOf m) () defs₀ Variants.none noLvl lvl0 1 where
  win := launch1.win.to₀
  block_pos := launch1.block_pos
  stage_whole := launch1.stage_whole
  K := PEmpty
  osem k := k.elim
  ho := Pipeline.OwnSemFacts.none _
  hbody c := (obligationR (ref3 m) c).loose
  hwaits := Pipeline.hwaits_of_owed_zero _ _ _ _ noLvl lvl0 1 fun _ _ => rfl
  pre c := iprop(StableHlo.held (c : Thread nD τ) (Pipeline.ucRefs τ sig) (at3 m c) ∗ aside c)
  post c := iprop(StableHlo.held (c : Thread nD τ) (Pipeline.ucRefs τ sig) (at4 m c) ∗ aside c)
  X c := iprop(∃ r, prngReg c r)
  Y c := iprop(∃ r, prngReg c r)
  Z c := Pipeline.unscopedRest (Ix := Unit) (Name := ℕ) (U := UR sig nD τ) (Lvl := ℕ) spec1 c (ref3 m c)
  hentry c := by
    rw [Pipeline.ownSems0_none]
    have hsplit := Pipeline.arrays_of_unscopedBufs (p := 1) (pcfgs (F := F)) noTab (datOf m) launch1.win launch1.arr_whole c
      ((datOf m 1 c).share_full fun _ => rfl) (ref3 m c) (datR_A (ref3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datOf m 1 c).Φ 0 = between (ref3 m) c 0 from rfl]
    iintro ⟨Hp, -, Hr⟩
    iapply (between_zero (ref3 m) c)
    unfold Pipeline.ΦA
    isplitl [Hr]; · iexact Hr
    iexact Hp
  hout c := by
    rw [Pipeline.ownSems0_none, show (datOf m 1 c).Φ (Fin.last _) = between (ref3 m) c cfg1.N from rfl]
    iintro HΦ
    ihave H := (between_out (ref3 m) c cfg1.N) $$ HΦ
    unfold Pipeline.ΦA
    icases H with ⟨Hr, Hp⟩
    isplitl [Hp]; · iexact Hp
    isplitr; · iempintro
    iexact Hr
  hexit c := by
    have hjoin := Pipeline.unscopedBufs_of_arrays (p := 1) (pcfgs (F := F)) noTab (Ix := Unit) (Name := ℕ) (U := UR sig nD τ) (Lvl := ℕ)
      launch1.win launch1.arr_whole c (datOf m) ((datOf m 1 c).share_full fun _ => rfl)
      (ref3 m c) (ref4 m c) ((datOf m 1 c).arrAt · cfg1.N) (fun w => (at4_arr m c w).symm)
      (fun b hb => at4_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The five segments in order. -/
abbrev items : List (Pipeline.Seg (pcfgs (F := F)) noTab (datOf m) () defs₀ Variants.none noLvl lvl0) :=
  [ .host (stretch hostOps0 hostOps0_sub hostOps0_fresh (at0 m)),
    .region (segN m),
    .host (stretch hostOps1 hostOps1_sub hostOps1_fresh (at2 m)),
    .region (segR m),
    .host (stretch hostOps2 hostOps2_sub hostOps2_fresh (at4 m)) ]

/-- The program is the run of its segments. -/
theorem main_items (c : Dev nD) : main (F := F) c = Pipeline.Seg.run (items m) := (main_chain c).trans (by chain_rfl)

/-- Every semaphore belongs to a scope. -/
theorem all_scoped : ∀ sm : SemLoc sig, sm.isScoped .tc = true := by decide

set_option backward.isDefEq.respectTransparency.types false in
/-- The run: at the end every array holds its contents in the fold `at5`, and every counter is zero. -/
theorem run : θ_run defs (onTc (τ := τ) (main (F := F))) ⟨m, fun _ => 0, ρ⟩ (fun r => (∀ c : Dev nD, ∀ b : Ref sig .tc,
      ¬ (Proc.devRef .tc b : DevRef τ sig).isScoped → r.2.mem ((c.tc : Thread nD τ).loc b) = at5 m c (Proc.devRef .tc b))
      ∧ r.2.sem = fun _ => 0) :=
  Pipeline.θ_run_regions_kit_sems (pcfgs (F := F)) noTab (datOf m) () cellOf_inj emb₁ defs₀ Variants.none noLvl lvl0 m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (at0 m c) ∗ aside c))
    (Tₙ := fun c => iprop(StableHlo.held (c : Thread nD τ) (Pipeline.ucRefs τ sig) (at5 m c) ∗ ∃ r, prngReg c r))
    (hch := ⟨fun _ => .rfl, fun _ => .rfl, fun _ => .rfl, fun _ => .rfl, fun _ => .rfl, fun c => by
      dsimp only [Pipeline.Seg.post, stretch, Pipeline.HostSeg.ofOps]
      iintro ⟨Hh, Hp, HO⟩
      isplitl [Hh Hp]
      · isplitl [Hh]; · iexact Hh
        iexact Hp
      iexact HO⟩)
    (hinit := by
      refine Pipeline.initEach noLvl lvl0 fun c => ?_
      rw [show unscopedBufs c (fun b => m ((c : Thread nD τ).loc b)) = StableHlo.held (c : Thread nD τ) (Pipeline.ucRefs τ sig) (at0 m c)
        from Pipeline.unscopedBufs_held c (at0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = at5 m c b)
    (hfin := fun c s' => by
      iintro ⟨⟨Hh, -⟩, HSI⟩
      unfold StableHlo.held
      imodintro
      iapply (pointsTo_read_all (Pipeline.ucRefs τ sig) (fun b => (((c : Thread nD τ)).1, b)) (at5 m c) s')
      isplitl [Hh] <;> iassumption)
    (hQ := fun s h hz => ⟨fun c b hb => h c _ (mem_held b hb), funext fun g => hz g (.inr (all_scoped g.2))⟩)

/-- The frame: the arguments end as launched, and every counter is zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨(h.1 c main_arg0 (by decide)).trans (at5_arg0 m c), (h.1 c main_arg1 (by decide)).trans (at5_arg1 m c)⟩, h.2⟩) (run m ρ)

end Cert.KernelIdeal.Router

end
-- ==== Proof.Frames.lean ====
/- The frames: each of the three programs, from any memory with zero counters, runs to its end without a fault, leaves its
   two arguments as they were and every counter at zero. The program as written and its idealization are one text and the
   run of `Launch` is proved at every arithmetic, so read at bit patterns it is the program's own frame. -/
module

public import proofs.«01_k».proof.Defs
public import proofs.«01_k».proof.Proof.Launch
public import proofs.«01_k».proof.Proof.Gen.Kernel
public import proofs.«01_k».proof.Proof.Gen.ReferenceIdeal
public import Idealize.ShloMosaic.Lib.Claim
public import Idealize.ShloMosaic.Lib.Quiescent

@[expose] public section

set_option maxRecDepth 16384

noncomputable section

namespace Cert.Frames

open Idealize.ShloMosaic Idealize.SL.Sem

/-- The idealized kernel's frame. -/
theorem ideal : Cert.quiescent_KernelIdeal := fun m ρ _ => Cert.KernelIdeal.Router.quiet m ρ

/-- The statement of the kernel's frame at an arithmetic `F`: from any memory the run ends, the two arguments are
    unchanged and every counter is zero. -/
def Framed (F : FTy → Type) [FloatOps F] : Prop :=
  ∀ (m : (ℓ : Loc Cert.KernelIdeal.nD Cert.KernelIdeal.τ Cert.KernelIdeal.sig) → Buf (Elt F) ℓ)
    (ρ : Dev Cert.KernelIdeal.nD → PrngReg), True →
    θ_run (Cert.KernelIdeal.defs (F := F))
      (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
      ∧ r.2.sem = fun _ => 0)

/-- The frame of the program as written. -/
theorem bits : Cert.quiescent_Kernel := by
  have h : Framed Bits := fun m ρ _ => Cert.KernelIdeal.Router.quiet (F := Bits) m ρ
  have e : Framed Bits = Cert.quiescent_Kernel := by sl_kernel_rfl
  exact e ▸ h

/-- The reference's frame: it is a line of array operations on a machine with no semaphore. -/
theorem reference : Cert.quiescent_ReferenceIdeal := by
  intro m g _
  hlo_run
  · exact fun _ => ⟨trivial, trivial⟩
  · exact sem_eq_zero_of_no_sems (sig := Cert.ReferenceIdeal.sig) (by decide) _

end Cert.Frames

end
-- ==== Proof.Rows.lean ====
/- What the two bodies compute of a row, over the extended reals. A row of 4096 entries is read as a function of a natural
   number; the lane-wise partial sums, folded to one number, are the sum over the whole row. -/
module

public import proofs.«01_k».proof.Proof.Data
public import Idealize.ShloMosaic.Lib.Pipeline.ValueKit
public import Idealize.ShloMosaic.Lib.Pointwise

@[expose] public section

set_option maxRecDepth 16384

noncomputable section

namespace Cert.KernelIdeal.Router

open Cert.KernelIdeal Cert.KernelIdeal.Gen
open Idealize.ShloMosaic Idealize.ShloMosaic.TcCoe

/-- Summing over lanes the sums over chunks of 128 is summing over the row of `n` chunks. -/
theorem lanes_total (n : ℕ) (g : ℕ → EReal) :
    ∑ l ∈ Finset.range 128, ∑ i ∈ Finset.range n, g (128 * i + l) = ∑ k ∈ Finset.range (128 * n), g k := by
  rw [Finset.sum_comm]
  induction n with
  | zero => rfl
  | succ n ih => rw [Finset.sum_range_succ, ih, Nat.mul_succ, Finset.sum_range_add]

/-- The fold of 128 lanes to one number: sixteen groups of eight added up, then four, two and one. -/
theorem fold_lanes (g : ℕ → EReal) (e : ℕ → EReal)
    (he : ∀ j, e j = ∑ i ∈ Finset.range 16, g (8 * i + j)) :
    ((e 0 + e 4) + (e 2 + e 6)) + ((e 1 + e 5) + (e 3 + e 7)) = ∑ l ∈ Finset.range 128, g l := by
  have h : ∑ l ∈ Finset.range 128, g l = ∑ j ∈ Finset.range 8, e j := by
    simp only [he]
    rw [Finset.sum_comm]
    simp only [Finset.sum_range_succ, Finset.sum_range_zero, zero_add, Nat.reduceMul, Nat.reduceAdd, ← add_assoc, mul_zero, add_zero]
  rw [h]; simp only [Finset.sum_range_succ, Finset.sum_range_zero, zero_add]
  ac_rfl

/-- The lanes of the centroids' squares: lane `l` of row `r` sums the squares at `l`, `128 + l`, … -/
theorem norm_lanes (x : Vec Ideal S64x4096 .f32) (r : Fin 64) (f : ℕ → EReal) (hf : ∀ k : Fin 4096, x (ix2 r k) = f k.val)
    (l : Fin 128) :
    k0_pay4 x (k0_pay2 x) (k0_pay3 x) (ix2 r l) = ∑ i ∈ Finset.range 32, f (128 * i + l.val) * f (128 * i + l.val) := by
  pointwise [k0_pay4, k0_pay2, k0_pay3]
  simp only [hf, Finset.sum_range_succ, Finset.sum_range_zero, zero_add, Nat.reduceMul, mul_zero, mul_one]

/-- The first body's result: each centroid's sum of squares over its 4096 entries. -/
theorem norms_apply (x : Vec Ideal S64x4096 .f32) (r : Fin 64) (f : ℕ → EReal) (hf : ∀ k : Fin 4096, x (ix2 r k) = f k.val) :
    normsOf x (ix2 r 0) = ∑ k ∈ Finset.range 4096, f k * f k := by
  have hl : ∀ l : Fin 128, k0_pay4 x (k0_pay2 x) (k0_pay3 x) (ix2 r l)
      = (fun l => ∑ i ∈ Finset.range 32, f (128 * i + l) * f (128 * i + l)) l.val := norm_lanes x r f hf
  have ht : ∑ l ∈ Finset.range 128, (fun l => ∑ i ∈ Finset.range 32, f (128 * i + l) * f (128 * i + l)) l
      = ∑ k ∈ Finset.range (128 * 32), f k * f k := lanes_total 32 fun k => f k * f k
  rw [show (4096 : ℕ) = 128 * 32 from rfl, ← ht]
  generalize (fun l => ∑ i ∈ Finset.range 32, f (128 * i + l) * f (128 * i + l)) = e at hl ⊢
  rw [← fold_lanes e _ fun j => rfl]
  unfold normsOf
  pointwise [k0_pay1, k0_pay5, k0_pay6]
  simp only [hl]
  simp only [Finset.sum_range_succ, Finset.sum_range_zero, zero_add, Nat.reduceMul, Nat.reduceAdd, mul_zero, mul_one,
    Fin.coe_ofNat_eq_mod, Nat.reduceMod]

/-- One column block's lanes: lane `l` of row `p` sums the squares at `l`, `128 + l`, …, `896 + l`. -/
theorem first_lanes (x : Vec Ideal S1024x1024 .f32) (p : Fin 1024) (f : ℕ → EReal) (hf : ∀ k : Fin 1024, x (ix2 p k) = f k.val)
    (l : Fin 128) :
    k1_pay2 x (ix2 p l) = ∑ i ∈ Finset.range 8, f (128 * i + l.val) * f (128 * i + l.val) := by
  pointwise [k1_pay2]
  simp only [hf, Finset.sum_range_succ, Finset.sum_range_zero, zero_add, Nat.reduceMul, mul_zero, mul_one]

/-- A later column block's lanes are added to those before. -/
theorem later_lanes (x : Vec Ideal S1024x1024 .f32) (q : Vec Ideal S1024x128 .f32) (p : Fin 1024) (f : ℕ → EReal)
    (hf : ∀ k : Fin 1024, x (ix2 p k) = f k.val) (l : Fin 128) :
    k1_pay4 x q (ix2 p l) = q (ix2 p l) + ∑ i ∈ Finset.range 8, f (128 * i + l.val) * f (128 * i + l.val) := by
  pointwise [k1_pay4]
  simp only [hf, Finset.sum_range_succ, Finset.sum_range_zero, zero_add, Nat.reduceMul, mul_zero, mul_one, add_assoc]

/-- One column block's products: row `p` of the tokens against centroid `q`. -/
theorem first_dot (x : Vec Ideal S1024x1024 .f32) (c : Vec Ideal S64x1024 .f32) (p : Fin 1024) (q : Fin 64) (f g : ℕ → EReal)
    (hf : ∀ k : Fin 1024, x (ix2 p k) = f k.val) (hg : ∀ k : Fin 1024, c (ix2 q k) = g k.val) :
    k1_pay3 x c (ix2 p q) = ∑ k ∈ Finset.range 1024, f k * g k := by
  pointwise [k1_pay3, k1_pay1]
  simp only [hf, hg]
  exact Fin.sum_univ_eq_sum_range (fun k => f k * g k) 1024

/-- A later column block's products are added to those before. -/
theorem later_dot (x : Vec Ideal S1024x1024 .f32) (c : Vec Ideal S64x1024 .f32) (d : Vec Ideal S1024x64 .f32) (p : Fin 1024)
    (q : Fin 64) (f g : ℕ → EReal) (hf : ∀ k : Fin 1024, x (ix2 p k) = f k.val) (hg : ∀ k : Fin 1024, c (ix2 q k) = g k.val) :
    k1_pay5 x c d (ix2 p q) = d (ix2 p q) + ∑ k ∈ Finset.range 1024, f k * g k := by
  pointwise [k1_pay5, k1_pay1]
  simp only [hf, hg]
  exact congrArg _ (Fin.sum_univ_eq_sum_range (fun k => f k * g k) 1024)

/-- The squared distance from the accumulators: twice the product taken from the two squared norms, and never below zero. -/
theorem dist_apply (d : Vec Ideal S1024x64 .f32) (s : Vec Ideal S1024x128 .f32) (n : Vec Ideal S1x64 .f32) (p : Fin 1024)
    (q : Fin 64) (e : ℕ → EReal) (he : ∀ l : Fin 128, s (ix2 p l) = e l.val) :
    k1_pay9 d s n (ix2 p q)
      = max ((∑ l ∈ Finset.range 128, e l) + n (ix2 0 q) - Ideal.ofBits .f32 0x40000000#32 * d (ix2 p q)) 0 := by
  rw [← fold_lanes e _ fun j => rfl]
  pointwise [k1_pay9]
  simp only [he]
  simp only [Finset.sum_range_succ, Finset.sum_range_zero, zero_add, Nat.reduceMul, Nat.reduceAdd, mul_zero, mul_one,
    Fin.coe_ofNat_eq_mod, Nat.reduceMod]

end Cert.KernelIdeal.Router

end
-- ==== Proof.Blocks.lean ====
/- The router region over the extended reals: the partial sums it carries from one column block to the next are sums over the
   columns read so far, and at a row block's last point its squared distances are those of the whole rows. -/
module

public import proofs.«01_k».proof.Proof.Rows

@[expose] public section

set_option maxRecDepth 16384

noncomputable section

namespace Cert.KernelIdeal.Router

open Cert.KernelIdeal Cert.KernelIdeal.Gen
open Idealize.ShloMosaic Idealize.ShloMosaic.TcCoe

variable (V : (c : Dev nD) → (b : Ref sig .tc) → Buf (Elt Ideal) ((c : Thread nD τ).loc b))

/-- Summing over chunks of `m` entries each is summing over all their entries. -/
theorem chunks_total (m n : ℕ) (g : ℕ → EReal) :
    ∑ s ∈ Finset.range n, ∑ k ∈ Finset.range m, g (m * s + k) = ∑ k ∈ Finset.range (m * n), g k := by
  induction n with
  | zero => rfl
  | succ n ih => rw [Finset.sum_range_succ, ih, Nat.mul_succ, Finset.sum_range_add]

/-- Row `r` of an array of rows of 4096 entries, as a function of a natural number. -/
def rowOf {n : ℕ} (x : (⟨2, ![n, 4096]⟩ : Shape).Idx → EReal) (r : Fin n) (k : ℕ) : EReal := x (ix2 r (Fin.ofNat 4096 k))

/-- An entry of the matrix is its row read at the column. -/
theorem rowOf_val {n : ℕ} (x : (⟨2, ![n, 4096]⟩ : Shape).Idx → EReal) (r : Fin n) (k : Fin 4096) :
    x (ix2 r k) = rowOf x r k.val := by
  unfold rowOf; congr 1; exact congrArg _ (Fin.ext (Nat.mod_eq_of_lt k.isLt).symm)

/-- The arrays region 1 reads, at their literal shapes: the tokens, the centroids and the norms' row. -/
abbrev tokens (c : Dev nD) : Vec Ideal S8192x4096 .f32 := V c main_v0
/-- The centroids the second launch reads. -/
abbrev table (c : Dev nD) : Vec Ideal S64x4096 .f32 := V c main_arg1
/-- The row of norms the second launch reads. -/
abbrev normRow (c : Dev nD) : Vec Ideal S1x64 .f32 := V c main_v2

/-- Where region 1's windows stand at a point: the row block is the point's quotient by four, the column block its
    remainder. -/
theorem place : ∀ t : Fin cfg1.N, win1_0.index t = ![t.val / 4, t.val % 4] ∧ win1_1.index t = ![0, t.val % 4]
    ∧ win1_2.index t = ![0, 0] ∧ win1_3.index t = ![t.val / 4, 0] ∧ win1_4.index t = ![t.val / 4, 0] :=
  (by decide +kernel : ∀ t : Fin grid1.N, _)

/-- A tile of tokens at an index is the token's row at the tile's column. -/
theorem xBlk_apply (c : Dev nD) (t : Fin cfg1.N) (p k : Fin 1024) (r : Fin 8192) (hr : r.val = 1024 * (t.val / 4) + p.val) :
    xBlk V c t (ix2 p k) = rowOf (tokens V c) r (1024 * (t.val % 4) + k.val) := by
  have hk : 1024 * (t.val % 4) + k.val < 4096 := by omega
  rw [show 1024 * (t.val % 4) + k.val = (⟨1024 * (t.val % 4) + k.val, hk⟩ : Fin 4096).val from rfl, ← rowOf_val]
  blk_ext [xBlk, blkR, tokens, place t]

/-- A tile of centroids at an index is the centroid's row at the tile's column. -/
theorem cBlk_apply (c : Dev nD) (t : Fin cfg1.N) (q : Fin 64) (k : Fin 1024) :
    cBlk V c t (ix2 q k) = rowOf (table V c) q (1024 * (t.val % 4) + k.val) := by
  have hk : 1024 * (t.val % 4) + k.val < 4096 := by omega
  rw [show 1024 * (t.val % 4) + k.val = (⟨1024 * (t.val % 4) + k.val, hk⟩ : Fin 4096).val from rfl, ← rowOf_val]
  blk_ext [cBlk, blkR, table, place t]

/-- The block of norms is the whole row of norms. -/
theorem nBlk_apply (c : Dev nD) (t : Fin cfg1.N) (q : Fin 64) : nBlk V c t (ix2 0 q) = normRow V c (ix2 0 q) := by
  blk_ext [nBlk, blkR, normRow, place t]

/-- The square and the product at column `k` of the column block numbered `s`. -/
def sq (c : Dev nD) (r : Fin 8192) (s k : ℕ) : EReal :=
  rowOf (tokens V c) r (1024 * s + k) * rowOf (tokens V c) r (1024 * s + k)
/-- The product at column `k` of column block `s`. -/
def pr (c : Dev nD) (r : Fin 8192) (q : Fin 64) (s k : ℕ) : EReal :=
  rowOf (tokens V c) r (1024 * s + k) * rowOf (table V c) q (1024 * s + k)

/-- The lane sums after point `n`: over the column blocks up to the point's. -/
theorem sums_lanes (c : Dev nD) (n : ℕ) (h : n < cfg1.N) (p : Fin 1024) (l : Fin 128) (r : Fin 8192)
    (hr : r.val = 1024 * (n / 4) + p.val) :
    (sums V c n h).1 (ix2 p l)
      = ∑ s ∈ Finset.range (n % 4 + 1), ∑ i ∈ Finset.range 8, sq V c r s (128 * i + l.val) := by
  have first (t : Fin cfg1.N) (hr : r.val = 1024 * (t.val / 4) + p.val) (h0 : t.val % 4 = 0) :
      (sums V c t.val t.isLt).1 (ix2 p l)
        = ∑ s ∈ Finset.range (t.val % 4 + 1), ∑ i ∈ Finset.range 8, sq V c r s (128 * i + l.val) := by
    have e := first_lanes (xBlk V c t) p (fun k => rowOf (tokens V c) r (1024 * (t.val % 4) + k))
      (fun k => xBlk_apply V c t p k r hr) l
    rw [h0] at e
    rw [sums_first V c t h0, h0, Finset.sum_range_one]
    exact e
  induction n with
  | zero => exact first ⟨0, h⟩ hr rfl
  | succ n ih =>
    by_cases h0 : (n + 1) % 4 = 0
    · exact first ⟨n + 1, h⟩ hr h0
    · have e := later_lanes (xBlk V c ⟨n + 1, h⟩) (sums V c n (Nat.lt_of_succ_lt h)).1 p
        (fun k => rowOf (tokens V c) r (1024 * ((n + 1) % 4) + k)) (fun k => xBlk_apply V c ⟨n + 1, h⟩ p k r hr) l
      rw [ih (Nat.lt_of_succ_lt h) (by omega), show n % 4 + 1 = (n + 1) % 4 by omega] at e
      rw [sums_later V c n h h0, Finset.sum_range_succ]
      exact e

/-- The products after point `n`: over the column blocks up to the point's. -/
theorem sums_dot (c : Dev nD) (n : ℕ) (h : n < cfg1.N) (p : Fin 1024) (q : Fin 64) (r : Fin 8192)
    (hr : r.val = 1024 * (n / 4) + p.val) :
    (sums V c n h).2 (ix2 p q) = ∑ s ∈ Finset.range (n % 4 + 1), ∑ k ∈ Finset.range 1024, pr V c r q s k := by
  have first (t : Fin cfg1.N) (hr : r.val = 1024 * (t.val / 4) + p.val) (h0 : t.val % 4 = 0) :
      (sums V c t.val t.isLt).2 (ix2 p q)
        = ∑ s ∈ Finset.range (t.val % 4 + 1), ∑ k ∈ Finset.range 1024, pr V c r q s k := by
    have e := first_dot (xBlk V c t) (cBlk V c t) p q (fun k => rowOf (tokens V c) r (1024 * (t.val % 4) + k))
      (fun k => rowOf (table V c) q (1024 * (t.val % 4) + k)) (fun k => xBlk_apply V c t p k r hr) fun k => cBlk_apply V c t q k
    rw [h0] at e
    rw [sums_first V c t h0, h0, Finset.sum_range_one]
    exact e
  induction n with
  | zero => exact first ⟨0, h⟩ hr rfl
  | succ n ih =>
    by_cases h0 : (n + 1) % 4 = 0
    · exact first ⟨n + 1, h⟩ hr h0
    · have e := later_dot (xBlk V c ⟨n + 1, h⟩) (cBlk V c ⟨n + 1, h⟩) (sums V c n (Nat.lt_of_succ_lt h)).2 p q
        (fun k => rowOf (tokens V c) r (1024 * ((n + 1) % 4) + k)) (fun k => rowOf (table V c) q (1024 * ((n + 1) % 4) + k))
        (fun k => xBlk_apply V c ⟨n + 1, h⟩ p k r hr) fun k => cBlk_apply V c ⟨n + 1, h⟩ q k
      rw [ih (Nat.lt_of_succ_lt h) (by omega), show n % 4 + 1 = (n + 1) % 4 by omega] at e
      rw [sums_later V c n h h0, Finset.sum_range_succ]
      exact e

/-- The squared distance of a row of tokens from a centroid whose squared norm is given. -/
def sqDist (x y : ℕ → EReal) (n : EReal) : EReal :=
  max ((∑ k ∈ Finset.range 4096, x k * x k) + n - Ideal.ofBits .f32 0x40000000#32 * ∑ k ∈ Finset.range 4096, x k * y k) 0

/-- At a row block's last point the body's squared distances are those of the whole rows. -/
theorem dist2_apply (c : Dev nD) (t : Fin cfg1.N) (h : t.val % 4 = 3) (p : Fin 1024) (q : Fin 64) (r : Fin 8192)
    (hr : r.val = 1024 * (t.val / 4) + p.val) :
    dist2 V c t (ix2 p q) = sqDist (rowOf (tokens V c) r) (rowOf (table V c) q) (normRow V c (ix2 0 q)) := by
  have hs : ∑ l ∈ Finset.range 128, ∑ s ∈ Finset.range 4, ∑ i ∈ Finset.range 8, sq V c r s (128 * i + l)
      = ∑ k ∈ Finset.range 4096, rowOf (tokens V c) r k * rowOf (tokens V c) r k := by
    rw [Finset.sum_comm]
    simp only [lanes_total 8 (sq V c r _)]
    exact chunks_total 1024 4 fun k => rowOf (tokens V c) r k * rowOf (tokens V c) r k
  have hd : ∑ s ∈ Finset.range 4, ∑ k ∈ Finset.range 1024, pr V c r q s k
      = ∑ k ∈ Finset.range 4096, rowOf (tokens V c) r k * rowOf (table V c) q k :=
    chunks_total 1024 4 fun k => rowOf (tokens V c) r k * rowOf (table V c) q k
  unfold dist2 sqDist
  rw [dist_apply _ _ _ p q (fun l => ∑ s ∈ Finset.range (t.val % 4 + 1), ∑ i ∈ Finset.range 8, sq V c r s (128 * i + l))
      fun l => sums_lanes V c t.val t.isLt p l r hr, sums_dot V c t.val t.isLt p q r hr, nBlk_apply, h]
  rw [hs, hd]

end Cert.KernelIdeal.Router

end
-- ==== Proof.Choice.lean ====
module
public import proofs.«01_k».proof.Proof.Blocks
public import proofs.«01_k».proof.Proof.Gen.ReferenceIdeal
public import Idealize.ShloMosaic.Lib.Claim
@[expose] public section
set_option maxRecDepth 16384
noncomputable section

/-!
What one row of squared distances is turned into: the softmax of the negated distances, and the
index of the least distance. The row is a function on the 64 centroids. The two programs write
both results differently; here each way is brought to the same two functions of the row.
-/

namespace Cert.KernelIdeal.Router
open Cert.KernelIdeal Cert.KernelIdeal.Gen
open Idealize.ShloMosaic Idealize.ShloMosaic.TcCoe

/-- The largest negated distance of a row of squared distances. -/
def peak (d : Fin 64 → EReal) : EReal :=
  (Finset.univ : Finset (Fin 64)).fold max (Ideal.ofBits .f32 0xFF800000#32) fun x => -Ideal.sqrt (d x)

/-- Centroid `q`'s softmax weight in a row of squared distances. -/
def weightOf (d : Fin 64 → EReal) (q : Fin 64) : EReal :=
  Ideal.div (Ideal.exp (-Ideal.sqrt (d q) - peak d)) (∑ x : Fin 64, Ideal.exp (-Ideal.sqrt (d x) - peak d))

/-- The place `x` has the least value of the row `s`, and no place before it has that value. -/
def FirstLeast (s : Fin 64 → EReal) (x : Fin 64) : Prop := ∀ y, toLex (s x, x) ≤ toLex (s y, y)

/-- Every row has a first least place. -/
theorem exists_firstLeast (s : Fin 64 → EReal) : ∃ x, FirstLeast s x := by
  obtain ⟨x, -, h⟩ := Finset.exists_min_image (Finset.univ : Finset (Fin 64)) (fun x => toLex (s x, x)) ⟨0, Finset.mem_univ _⟩
  exact ⟨x, fun y => h y (Finset.mem_univ _)⟩

/-- The first least place of a row of squared distances' roots. -/
def nearestOf (d : Fin 64 → EReal) : Fin 64 := (exists_firstLeast fun x => Ideal.sqrt (d x)).choose

/-- It is a first least place. -/
theorem nearestOf_spec (d : Fin 64 → EReal) : FirstLeast (fun x => Ideal.sqrt (d x)) (nearestOf d) :=
  (exists_firstLeast fun x => Ideal.sqrt (d x)).choose_spec

/-- The value at a first least place is below every value. -/
theorem FirstLeast.le {s : Fin 64 → EReal} {x : Fin 64} (h : FirstLeast s x) (y : Fin 64) : s x ≤ s y := by
  rcases (Prod.Lex.le_iff.mp (h y)) with h | h
  · exact le_of_lt h
  · exact le_of_eq h.1

/-- A first least place is not after any place of the same value. -/
theorem FirstLeast.first {s : Fin 64 → EReal} {x : Fin 64} (h : FirstLeast s x) (y : Fin 64) (e : s y = s x) : x ≤ y := by
  rcases (Prod.Lex.le_iff.mp (h y)) with h | h
  · exact absurd h (by simp [e])
  · exact h.2

/-- The least value of a row, as a fold from the greatest extended real, is the value at its
first least place. -/
theorem FirstLeast.fold {s : Fin 64 → EReal} {x : Fin 64} (h : FirstLeast s x) :
    (Finset.univ : Finset (Fin 64)).fold min (Ideal.ofBits .f32 0x7F800000#32) s = s x := by
  have top : Ideal.ofBits .f32 0x7F800000#32 = ⊤ := by simp [Ideal.ofBits, Ideal.ieee]
  rw [top]
  refine le_antisymm ?_ ?_
  · exact (Finset.fold_min_le (s x)).mpr (Or.inr ⟨x, Finset.mem_univ _, le_rfl⟩)
  · exact (Finset.le_fold_min (s x)).mpr ⟨le_top, fun y _ => h.le y⟩

/-- The signed value of a place's 32-bit word is the place. -/
theorem place_toInt (x : Fin 64) : (BitVec.ofNat 32 x.val).toInt = x.val := by
  have := x.isLt
  rw [BitVec.toInt_eq_toNat_of_lt (by simp; omega)]
  simp; omega

/-- The signed minimum by its signed values. -/
theorem minsi_eq (a b : BitVec 32) : IntOp.minsi a b = if a.toInt < b.toInt then a else b := by
  simp [IntOp.minsi, BitVec.slt]

/-- A fold of signed minima stops at a word which is among the folded ones and below the others. -/
theorem fold_minsi (S : Finset (Fin 64)) (b : BitVec 32) (c : Fin 64 → BitVec 32) :
    (S.fold IntOp.minsi b c = b ∨ ∃ x ∈ S, S.fold IntOp.minsi b c = c x)
      ∧ (S.fold IntOp.minsi b c).toInt ≤ b.toInt ∧ ∀ x ∈ S, (S.fold IntOp.minsi b c).toInt ≤ (c x).toInt := by
  induction S using Finset.induction_on with
  | empty => simp
  | insert a S ha ih =>
    rw [Finset.fold_insert ha, minsi_eq]
    obtain ⟨i1, i2, i3⟩ := ih
    split
    · refine ⟨Or.inr ⟨a, Finset.mem_insert_self _ _, rfl⟩, by omega, fun x hx => ?_⟩
      rcases Finset.mem_insert.mp hx with rfl | hx
      · exact le_rfl
      · have := i3 x hx; omega
    · refine ⟨i1.imp id fun ⟨x, hx, e⟩ => ⟨x, Finset.mem_insert_of_mem hx, e⟩, i2, fun x hx => ?_⟩
      rcases Finset.mem_insert.mp hx with rfl | hx
      · omega
      · exact i3 x hx

/-- The kernel's choice: the least of the places whose value is the row's least value is the
first least place. -/
theorem FirstLeast.choice {s : Fin 64 → EReal} {x : Fin 64} (h : FirstLeast s x) :
    (Finset.univ : Finset (Fin 64)).fold IntOp.minsi 2147483647#32
      (fun y => if s y = (Finset.univ : Finset (Fin 64)).fold min (Ideal.ofBits .f32 0x7F800000#32) s
        then BitVec.ofNat 32 y.val else 64#32) = BitVec.ofNat 32 x.val := by
  rw [h.fold]
  obtain ⟨h1, h2, h3⟩ := fold_minsi Finset.univ 2147483647#32 (fun y => if s y = s x then BitVec.ofNat 32 y.val else 64#32)
  have hx := h3 x (Finset.mem_univ _)
  rw [if_pos rfl, place_toInt] at hx
  have l := x.isLt
  rcases h1 with e | ⟨y, -, e⟩
  · rw [e] at hx
    have : (2147483647#32 : BitVec 32).toInt = 2147483647 := by decide
    omega
  · rw [e] at hx ⊢
    by_cases hy : s y = s x
    · simp only [if_pos hy, place_toInt] at hx ⊢
      have := Fin.le_def.mp (h.first y hy)
      have : y = x := Fin.ext (by omega)
      rw [this]
    · simp only [if_neg hy] at hx
      have : (64#32 : BitVec 32).toInt = 64 := by decide
      omega

/-- What a pair of a value and an index is compared by: the value first, then the index. -/
def pairKey (a : EReal × BitVec 32) : EReal ×ₗ ℤ := toLex (a.1, a.2.toInt)

/-- Pairs that compare equal are equal. -/
theorem pairKey_inj {a b : EReal × BitVec 32} (h : pairKey a = pairKey b) : a = b := by
  have e : (a.1, a.2.toInt) = (b.1, b.2.toInt) := toLex.injective h
  exact Prod.ext (Prod.mk.inj e).1 (BitVec.eq_of_toInt_eq (Prod.mk.inj e).2)

/-- The reference's argmin step keeps the pair that comes first. -/
theorem argmin_step (a b : EReal × BitVec 32) :
    Cert.ReferenceIdeal.reducer_argmin_f32_i32 (F := Ideal) a b = if pairKey a < pairKey b then a else b := by
  obtain ⟨a, i⟩ := a
  obtain ⟨b, j⟩ := b
  have key : pairKey (a, i) < pairKey (b, j) ↔ a < b ∨ a = b ∧ i.toInt < j.toInt := Prod.Lex.lt_iff
  simp only [key, Cert.ReferenceIdeal.reducer_argmin_f32_i32, Ideal.cmpf_def, Ideal.cmp, IntOp.cmpi, IntOp.ori, IntOp.andi,
    Scalar.select, BitVec.slt]
  by_cases h : a < b
  · have : a ≠ b := ne_of_lt h
    simp [h, this]
  · by_cases e : a = b
    · by_cases g : i.toInt < j.toInt <;> simp [h, e, g]
    · simp [h, e]

/-- A fold of argmin steps stops at a pair which is among the folded ones and not after any. -/
theorem argmin_fold (L : List (EReal × BitVec 32)) (b : EReal × BitVec 32) :
    (L.foldl (Cert.ReferenceIdeal.reducer_argmin_f32_i32 (F := Ideal)) b = b
        ∨ L.foldl (Cert.ReferenceIdeal.reducer_argmin_f32_i32 (F := Ideal)) b ∈ L)
      ∧ pairKey (L.foldl (Cert.ReferenceIdeal.reducer_argmin_f32_i32 (F := Ideal)) b) ≤ pairKey b
      ∧ ∀ a ∈ L, pairKey (L.foldl (Cert.ReferenceIdeal.reducer_argmin_f32_i32 (F := Ideal)) b) ≤ pairKey a := by
  induction L generalizing b with
  | nil => simp
  | cons a L ih =>
    rw [List.foldl_cons, argmin_step]
    split
    · rename_i h
      obtain ⟨i1, i2, i3⟩ := ih b
      refine ⟨i1.imp id (List.mem_cons_of_mem _), i2, fun x hx => ?_⟩
      rcases List.mem_cons.mp hx with rfl | hx
      · exact le_trans i2 (le_of_lt h)
      · exact i3 x hx
    · rename_i h
      obtain ⟨i1, i2, i3⟩ := ih a
      refine ⟨?_, le_trans i2 (not_lt.mp h), fun x hx => ?_⟩
      · rcases i1 with e | e
        · exact Or.inr (by rw [e]; exact List.mem_cons_self)
        · exact Or.inr (List.mem_cons_of_mem _ e)
      · rcases List.mem_cons.mp hx with rfl | hx
        · exact i2
        · exact i3 x hx

/-- The reference's choice: from the greatest value and index zero, through any list of exactly
the row's pairs of value and place, the argmin steps end at the first least place. -/
theorem FirstLeast.argmin {s : Fin 64 → EReal} {x : Fin 64} (h : FirstLeast s x) (L : List (EReal × BitVec 32))
    (hL : ∀ a, a ∈ L ↔ ∃ y : Fin 64, a = (s y, BitVec.ofNat 32 y.val)) :
    L.foldl (Cert.ReferenceIdeal.reducer_argmin_f32_i32 (F := Ideal)) (Ideal.ofBits .f32 0x7F800000#32, 0#32)
      = (s x, BitVec.ofNat 32 x.val) := by
  have top : Ideal.ofBits .f32 0x7F800000#32 = ⊤ := by simp [Ideal.ofBits, Ideal.ieee]
  obtain ⟨h1, h2, h3⟩ := argmin_fold L (Ideal.ofBits .f32 0x7F800000#32, 0#32)
  have hkey : ∀ y : Fin 64, pairKey (s x, BitVec.ofNat 32 x.val) ≤ pairKey (s y, BitVec.ofNat 32 y.val) := fun y => by
    refine Prod.Lex.le_iff.mpr ?_
    rcases Prod.Lex.le_iff.mp (h y) with g | g
    · exact Or.inl g
    · refine Or.inr ⟨g.1, ?_⟩
      show (BitVec.ofNat 32 x.val).toInt ≤ (BitVec.ofNat 32 y.val).toInt
      rw [place_toInt, place_toInt]
      exact_mod_cast Fin.le_def.mp g.2
  refine pairKey_inj (le_antisymm (h3 _ ((hL _).mpr ⟨x, rfl⟩)) ?_)
  rcases h1 with e | e
  · rw [e]
    refine le_trans (hkey 0) (Prod.Lex.le_iff.mpr ?_)
    rcases lt_or_eq_of_le (le_top : s 0 ≤ ⊤) with g | g
    · exact Or.inl (by simpa [pairKey, top] using g)
    · exact Or.inr ⟨by simpa [pairKey, top] using g, le_rfl⟩
  · obtain ⟨y, hy⟩ := (hL _).mp e
    rw [hy]
    exact hkey y

/-- The kernel's weights of a tile of squared distances, row by row. -/
theorem weights_apply (v : FVec Ideal S1024x64 .f32) (p : Fin 1024) (q : Fin 64) :
    k1_pay7 v (ix2 p q) = weightOf (fun x => v (ix2 p x)) q := by
  pointwise [k1_pay7, k1_pay6]
  simp only [weightOf, peak, zero_sub]

/-- The kernel's indices of a tile of squared distances, row by row. -/
theorem nearest_apply (v : FVec Ideal S1024x64 .f32) (p : Fin 1024) :
    k1_pay8 v (ix2 p 0) = BitVec.ofNat 32 (nearestOf fun x => v (ix2 p x)).val := by
  rw [← (nearestOf_spec fun x => v (ix2 p x)).choice]
  pointwise [k1_pay8, k1_pay6]

end Cert.KernelIdeal.Router
-- ==== Proof.Reference.lean ====
module
public import proofs.«01_k».proof.Proof.Choice
@[expose] public section
set_option maxRecDepth 16384
noncomputable section

/-!
The reference's values at an index: its squared distances are those of whole rows, its weights
and its indices are the row's softmax and first least place.
-/

namespace Cert.ReferenceIdeal.Router
open Cert.ReferenceIdeal Cert.ReferenceIdeal.Gen
open Idealize.ShloMosaic Idealize.ShloMosaic.TcCoe
open Cert.KernelIdeal.Router (rowOf rowOf_val sqDist weightOf nearestOf nearestOf_spec peak)

/-- Row `r`'s squared distances to the centroids. -/
def rowDist (x : FVec Ideal S8192x4096 .f32) (c : FVec Ideal S64x4096 .f32) (r : Fin 8192) (q : Fin 64) : EReal :=
  sqDist (rowOf x r) (rowOf c q) (∑ k ∈ Finset.range 4096, rowOf c q k * rowOf c q k)

/-- The squared distances as the reference computes them, cut off below at zero. -/
def dist (x : FVec Ideal S8192x4096 .f32) (c : FVec Ideal S64x4096 .f32) : FVec Ideal S8192x64 .f32 :=
  maximumf (broadcastInDim S8192x64 ![] Facts₀.bcast_S_S8192x64 (id (constant S_ .f32 0x00000000#32)))
    (subf
      (addf
        (broadcastInDim S8192x64 ![0, 1] Facts₀.bcast_S8192x1_S8192x64_0_1
          (broadcastInDim S8192x1 ![0] Facts₀.bcast_S8192_S8192x1_0
            (Host.reduceAdd (mulf x x) (constant S_ .f32 0x00000000#32) Facts₀.reducesTo_S8192x4096_S8192_d1 Facts₀.h_S_)))
        (broadcastInDim S8192x64 ![0, 1] Facts₀.bcast_S1x64_S8192x64_0_1
          (broadcastInDim S1x64 ![1] Facts₀.bcast_S64_S1x64_1
            (Host.reduceAdd (mulf c c) (constant S_ .f32 0x00000000#32) Facts₀.reducesTo_S64x4096_S64_d1 Facts₀.h_S_))))
      (mulf (broadcastInDim S8192x64 ![] Facts₀.bcast_S_S8192x64 (constant S_ .f32 0x40000000#32))
        (Host.dotGeneral dot_S8192x4096_S4096x64_S8192x64_1_0_0_1_n_n none x
          (transpose S4096x64 [1, 0] c Facts₀.transposes_S64x4096_S4096x64_1_0))))

/-- At an index they are the squared distances of whole rows. -/
theorem dist_apply (x : FVec Ideal S8192x4096 .f32) (c : FVec Ideal S64x4096 .f32) (r : Fin 8192) (q : Fin 64) :
    dist x c (ix2 r q) = rowDist x c r q := by
  pointwise [dist, id]
  simp only [rowOf_val x, rowOf_val c]
  rw [Fin.sum_univ_eq_sum_range (fun k => rowOf x r k * rowOf x r k) 4096,
    Fin.sum_univ_eq_sum_range (fun k => rowOf c q k * rowOf c q k) 4096,
    Fin.sum_univ_eq_sum_range (fun k => rowOf x r k * rowOf c q k) 4096]
  simp only [rowDist, sqDist]
  rw [max_comm]

/-- A host reduction by maximum along the second axis of a matrix, of any size. -/
theorem hostMax_apply {n0 n1 : ℕ} {u : Shape} (x : FVec Ideal ⟨2, ![n0, n1]⟩ .f32) (v : FVec Ideal u .f32)
    (h : (⟨2, ![n0, n1]⟩ : Shape).ReducesTo [1] ⟨1, ![n0]⟩) (hu : 0 < u.numel) (p : Fin n0) :
    Host.reduce FloatOps.maximumf x v h hu (ix1 p)
      = (Finset.univ : Finset (Fin n1)).fold max (v (Shape.Idx.first hu)) fun k => x (ix2 p k) := by
  rw [Host.reduce_eq_fold]
  exact Shape.ReducesTo.fold_fiber_r2_a1 h (ix1 p) max _ x

/-- Each row's largest negated distance. -/
def most (d : FVec Ideal S8192x64 .f32) : FVec Ideal S8192 .f32 :=
  Host.reduce FloatOps.maximumf (Host.negf (Host.sqrt d)) (constant S_ .f32 0xFF800000#32)
    Facts₀.reducesTo_S8192x64_S8192_d1 Facts₀.h_S_

/-- At a row it is the row's peak. -/
theorem most_apply (d : FVec Ideal S8192x64 .f32) (p : Fin 8192) : most d (ix1 p) = peak fun x => d (ix2 p x) :=
  hostMax_apply (Host.negf (Host.sqrt d)) _ _ _ p

/-- A splat of one word, of any word and over any shape. -/
theorem splat_apply {t : Shape} {dims : Fin S_.rank → Fin t.rank} (h : S_.BroadcastsInDim t dims) (b : BitVec 32) (j : t.Idx) :
    broadcastInDim t dims h (constant (F := Ideal) S_ .f32 b) j = Ideal.ofBits .f32 b := rfl

/-- The least extended real in every row. -/
def least : FVec Ideal S8192 .f32 := broadcastInDim S8192 ![] Facts₀.bcast_S_S8192 (constant S_ .f32 0xFF800000#32)

/-- At every row it is the same value. -/
theorem least_apply (j : S8192.Idx) : least j = Ideal.ofBits .f32 0xFF800000#32 := splat_apply _ _ j

/-- The exponentials of the negated distances against the row's largest. -/
def powers (d : FVec Ideal S8192x64 .f32) : FVec Ideal S8192x64 .f32 :=
  Host.exp (subf (Host.negf (Host.sqrt d)) (broadcastInDim S8192x64 ![0, 1] Facts₀.bcast_S8192x1_S8192x64_0_1
    (broadcastInDim S8192x1 ![0] Facts₀.bcast_S8192_S8192x1_0
      (maximumf least (most d)))))

/-- At an index, in terms of the row. -/
theorem powers_apply (d : FVec Ideal S8192x64 .f32) (p : Fin 8192) (q : Fin 64) :
    powers d (ix2 p q) = Ideal.exp (-Ideal.sqrt (d (ix2 p q)) - peak fun x => d (ix2 p x)) := by
  pointwise [powers]
  rw [least_apply, most_apply, peak, max_eq_right ((Finset.le_fold_max _).mpr (Or.inl le_rfl))]

/-- The softmax of the negated distances as the reference computes it. -/
def soft (d : FVec Ideal S8192x64 .f32) : FVec Ideal S8192x64 .f32 :=
  Host.divf (powers d) (broadcastInDim S8192x64 ![0, 1] Facts₀.bcast_S8192x1_S8192x64_0_1
    (broadcastInDim S8192x1 ![0] Facts₀.bcast_S8192_S8192x1_0
      (Host.reduceAdd (powers d) (constant S_ .f32 0x00000000#32) Facts₀.reducesTo_S8192x64_S8192_d1 Facts₀.h_S_)))

/-- At an index it is the row's softmax weight. -/
theorem soft_apply (d : FVec Ideal S8192x64 .f32) (p : Fin 8192) (q : Fin 64) :
    soft d (ix2 p q) = weightOf (fun x => d (ix2 p x)) q := by
  pointwise [soft]
  simp only [powers_apply, weightOf]

/-- The index of the least distance as the reference computes it. -/
def near (d : FVec Ideal S8192x64 .f32) : IVec S8192 32 := fun j =>
  (Host.argReduce reducer_argmin_f32_i32 (Host.sqrt d) (iotaInDim S8192x64 32 1) (constant S_ .f32 0x7F800000#32)
    (constantI S_ 32 0#32) Facts₀.reducesTo_S8192x64_S8192_d1 Facts₀.h_S_ j).2

/-- The pairs an arg-reduction of the fiber over `j` runs through, in any shape. -/
theorem mem_argReduceFiber {s t : Shape} {axes : List (Fin s.rank)} {α β : Type} (x : s.Idx → α) (y : s.Idx → β)
    (h : s.ReducesTo axes t) (j : t.Idx) (a : α × β) :
    a ∈ Host.argReduceFiber x y h j ↔ ∃ i, h.drop i = j ∧ a = (x i, y i) := by
  rw [Host.argReduceFiber, List.mem_map]
  constructor
  · rintro ⟨n, hn, rfl⟩
    exact ⟨_, of_decide_eq_true (List.mem_filter.mp hn).2, rfl⟩
  · rintro ⟨i, hi, rfl⟩
    refine ⟨s.rowMajor i, List.mem_filter.mpr ⟨List.mem_finRange _, decide_eq_true ?_⟩, ?_⟩
    · rw [Equiv.symm_apply_apply]
      exact hi
    · rw [Equiv.symm_apply_apply]

/-- The pairs the reference's argmin of a row runs through: each place's distance and the place. -/
theorem mem_fiber (d : FVec Ideal S8192x64 .f32) (p : Fin 8192) (a : EReal × BitVec 32) :
    a ∈ Host.argReduceFiber (Host.sqrt d) (iotaInDim S8192x64 32 1) Facts₀.reducesTo_S8192x64_S8192_d1 (ix1 p)
      ↔ ∃ y : Fin 64, a = (Ideal.sqrt (d (ix2 p y)), BitVec.ofNat 32 y.val) := by
  rw [mem_argReduceFiber]
  constructor
  · rintro ⟨i, hi, rfl⟩
    obtain ⟨k, rfl⟩ := (Shape.ReducesTo.fiber_r2_a1 _ _ _).mp hi
    exact ⟨k, rfl⟩
  · rintro ⟨y, rfl⟩
    exact ⟨ix2 p y, (Shape.ReducesTo.fiber_r2_a1 _ _ _).mpr ⟨y, rfl⟩, rfl⟩

/-- An arg-reduction at `j` is the left fold of its body over the fiber's pairs, in any shape. -/
theorem argReduce_apply {s t u : Shape} {axes : List (Fin s.rank)} {β : Type} (f : EReal × β → EReal × β → EReal × β)
    (x : FVec Ideal s .f32) (y : s.Idx → β) (ix : FVec Ideal u .f32) (iy : u.Idx → β) (h : s.ReducesTo axes t) (hu : 0 < u.numel)
    (j : t.Idx) :
    Host.argReduce f x y ix iy h hu j
      = (Host.argReduceFiber x y h j).foldl f (ix (Shape.Idx.first hu), iy (Shape.Idx.first hu)) := by
  rw [Ideal.argReduce_eq_reduce2, Host.reduce2_eq_foldl_fiber]

/-- At a row it is the row's first least place. -/
theorem near_apply (d : FVec Ideal S8192x64 .f32) (p : Fin 8192) :
    near d (ix1 p) = BitVec.ofNat 32 (nearestOf fun x => d (ix2 p x)).val := by
  have e := argReduce_apply (reducer_argmin_f32_i32 (F := Ideal)) (Host.sqrt d) (iotaInDim S8192x64 32 1)
    (constant S_ .f32 0x7F800000#32) (constantI S_ 32 0#32) Facts₀.reducesTo_S8192x64_S8192_d1 Facts₀.h_S_ (ix1 p)
  rw [constant_apply, Ideal.ofBits_def, constantI_apply] at e
  have e' := e.trans ((nearestOf_spec fun x => d (ix2 p x)).argmin _ (mem_fiber d p))
  unfold near
  rw [e']

end Cert.ReferenceIdeal.Router

end
-- ==== Proof.Arrays.lean ====
module
public import proofs.«01_k».proof.Proof.Reference
public import proofs.«01_k».proof.Proof.Launch
@[expose] public section
set_option maxRecDepth 16384
noncomputable section

/-!
The arrays the two launches leave, as whole-array functions of the arrays they were given.
-/

namespace Cert.KernelIdeal.Router
open Cert.KernelIdeal Cert.KernelIdeal.Gen
open Idealize.ShloMosaic Idealize.ShloMosaic.TcCoe
open Idealize.ShloMosaic.Pipeline (Dat)

variable (V : (c : Dev nD) → (b : Ref sig .tc) → Buf (Elt Ideal) ((c : Thread nD τ).loc b))

/-- The first launch's one block is the whole table. -/
theorem placeN : ∀ t : Fin cfg0.N, win0_0.index t = ![0, 0] := by decide +kernel

/-- The centroids' squared norms. -/
theorem norms_array (c : Dev nD) (q : Fin 64) :
    (datN V c).arrAt 1 cfg0.N (ix2 q 0) = ∑ k ∈ Finset.range 4096, rowOf (table V c) q k * rowOf (table V c) q k := by
  have h : (datN V c).arrAt 1 cfg0.N = fun j : (⟨2, ![64, 1]⟩ : Shape).Idx =>
      ∑ k ∈ Finset.range 4096, rowOf (table V c) (j 0) k * rowOf (table V c) (j 0) k := by
    refine (datN V c).arrAt_eq_of_after_last 1 t0_0 (by decide +kernel) _ fun j => ?_
    blk_simp
    rw [datN_after1]
    idx_vars j
    obtain rfl : j1 = 0 := Subsingleton.elim _ _
    refine norms_apply (blkN V c 0 t0_0) j0 (rowOf (table V c) j0) fun k => ?_
    rw [← rowOf_val]
    blk_ext [blkN, table, placeN t0_0]
  rw [h]
  rfl

/-- A row block's last point is where its results are written back. -/
theorem last3 (t : Fin cfg1.N) (h : (cfg1.win 3).flush t = true) : t.val % 4 = 3 := by
  by_contra n
  rw [(idle3 t n).2] at h
  exact Bool.false_ne_true h

/-- The same for the indices' window. -/
theorem last4 (t : Fin cfg1.N) (h : (cfg1.win 4).flush t = true) : t.val % 4 = 3 := by
  by_contra n
  rw [(idle4 t n).2] at h
  exact Bool.false_ne_true h

/-- The row of squared distances the second launch computes for token `r`. -/
def distRow (c : Dev nD) (r : Fin 8192) (q : Fin 64) : EReal :=
  sqDist (rowOf (tokens V c) r) (rowOf (table V c) q) (normRow V c (ix2 0 q))

/-- The weights. -/
theorem weights_array (c : Dev nD) :
    (datR V c).arrAt 3 cfg1.N = fun j : (⟨2, ![8192, 64]⟩ : Shape).Idx => weightOf (distRow V c (j 0)) (j 1) := by
  refine (datR V c).arrAt_eq_of_covers 3 _ (by decide +kernel) fun t hf y => ?_
  blk_simp
  rw [datR_after3]
  idx_vars y
  have ht := last3 t hf
  have hN : t.val < 32 := t.isLt
  have e : ((View.whole main_v3_0).slice (win1_3.rect t)).emb (ix2 y0 y1) = ix2 (⟨1024 * (t.val / 4) + y0.val, by omega⟩ : Fin 8192) y1 := by
    blk_ext [place t]
  rw [e, weights_apply]
  exact congrArg (fun d => weightOf d y1) (funext fun q => dist2_apply V c t ht y0 q _ rfl)

/-- The indices. -/
theorem nearest_array (c : Dev nD) :
    (datR V c).arrAt 4 cfg1.N = fun j : (⟨2, ![8192, 1]⟩ : Shape).Idx => BitVec.ofNat 32 (nearestOf (distRow V c (j 0))).val := by
  refine (datR V c).arrAt_eq_of_covers 4 _ (by decide +kernel) fun t hf y => ?_
  blk_simp
  rw [datR_after4]
  idx_vars y
  obtain rfl : y1 = 0 := Subsingleton.elim _ _
  have ht := last4 t hf
  have hN : t.val < 32 := t.isLt
  have e : ((View.whole main_v3_1).slice (win1_4.rect t)).emb (ix2 y0 (0 : Fin 1)) = ix2 (⟨1024 * (t.val / 4) + y0.val, by omega⟩ : Fin 8192) 0 := by
    blk_ext [place t]
  rw [e, nearest_apply]
  exact congrArg (fun d => BitVec.ofNat 32 (nearestOf d).val) (funext fun q => dist2_apply V c t ht y0 q _ rfl)

end Cert.KernelIdeal.Router

end
-- ==== Proof.Value.lean ====
module
public import proofs.«01_k».proof.Proof.Arrays
public import proofs.«01_k».proof.Defs
public import Idealize.ShloMosaic.Lib.Claim
@[expose] public section
set_option maxRecDepth 16384
noncomputable section

/-!
The kernel's idealization and the reference's, run on equal arguments, leave equal results.
-/

namespace Cert.KernelIdeal.Router
open Cert.KernelIdeal Cert.KernelIdeal.Gen
open Idealize.ShloMosaic Idealize.ShloMosaic.TcCoe Idealize.SL.Sem
open Cert.ReferenceIdeal.Router (rowDist soft near soft_apply near_apply)

variable (m : (ℓ : Loc nD τ sig) → Buf (Elt Ideal) ℓ)

/-- The tokens as one matrix. -/
def flat (x : FVec Ideal S2x4096x4096 .f32) : FVec Ideal S8192x4096 .f32 := shapeCast S8192x4096 x Facts₀.shapeCasts_S2x4096x4096_S8192x4096

/-- The tokens the second launch reads are the first argument as one matrix. -/
theorem tokens_eq (c : Dev nD) : tokens (ref3 m) c = flat (m ((c : Thread nD τ).loc main_arg0)) := by
  have e : at3 m c (Proc.devRef .tc main_v0) = at1 m c (Proc.devRef .tc main_v0) :=
    (at3_of m c main_v0 (by decide)).trans (at2_ne m c main_v0 (by decide))
  refine Eq.trans e ?_
  rfl

/-- The centroids the second launch reads are the second argument. -/
theorem table_eq (c : Dev nD) : table (ref3 m) c = m ((c : Thread nD τ).loc main_arg1) := at3_arg1 m c

/-- So are those the first launch reads. -/
theorem table_eq1 (c : Dev nD) : table (ref1 m) c = m ((c : Thread nD τ).loc main_arg1) := at1_of m c main_arg1 (by decide)

/-- A column read as a row. -/
theorem column_apply (x : FVec Ideal S64x1 .f32) (q : Fin 64) :
    shapeCast S1x64 x Facts₀.shapeCasts_S64x1_S1x64 (ix2 0 q) = x (ix2 q 0) := by
  pointwise

/-- The row of norms the second launch is given. -/
theorem normRow_eq (c : Dev nD) (q : Fin 64) : normRow (ref3 m) c (ix2 0 q)
    = ∑ k ∈ Finset.range 4096, rowOf (m ((c : Thread nD τ).loc main_arg1)) q k * rowOf (m ((c : Thread nD τ).loc main_arg1)) q k := by
  have e : normRow (ref3 m) c = shapeCast S1x64 (at2 m c (Proc.devRef .tc main_v1)) Facts₀.shapeCasts_S64x1_S1x64 := rfl
  rw [e, at2_arr m c 1]
  refine (column_apply _ q).trans ((norms_array (ref1 m) c q).trans ?_)
  rw [table_eq1]

/-- The second launch's row of squared distances is the reference's. -/
theorem distRow_eq (c : Dev nD) (r : Fin 8192) : distRow (ref3 m) c r
    = rowDist (flat (m ((c : Thread nD τ).loc main_arg0))) (m ((c : Thread nD τ).loc main_arg1)) r := by
  funext q
  unfold distRow rowDist
  rw [tokens_eq, table_eq, normRow_eq]

/-- The weights, in the program's own shape. -/
theorem result0 (c : Dev nD) : at5 m c (Proc.devRef .tc main_v4)
    = shapeCast S2x4096x64 (soft (Cert.ReferenceIdeal.Router.dist (flat (m ((c : Thread nD τ).loc main_arg0))) (m ((c : Thread nD τ).loc main_arg1))))
        Facts₀.shapeCasts_S8192x64_S2x4096x64 := by
  have e : at5 m c (Proc.devRef .tc main_v4) = shapeCast S2x4096x64 (at4 m c (Proc.devRef .tc main_v3_0)) Facts₀.shapeCasts_S8192x64_S2x4096x64 := rfl
  have g : at4 m c (Proc.devRef .tc main_v3_0) = soft (Cert.ReferenceIdeal.Router.dist (flat (m ((c : Thread nD τ).loc main_arg0))) (m ((c : Thread nD τ).loc main_arg1))) := by
    refine (at4_arr m c 3).trans ((weights_array (ref3 m) c).trans ?_)
    funext j
    idx_vars j
    rw [soft_apply]
    simp only [Cert.ReferenceIdeal.Router.dist_apply]
    exact congrArg (fun d => weightOf d j1) (distRow_eq m c j0)
  rw [e, g]

/-- The indices, in the program's own shape. -/
theorem result1 (c : Dev nD) : at5 m c (Proc.devRef .tc main_v5)
    = shapeCast S2x4096 (near (Cert.ReferenceIdeal.Router.dist (flat (m ((c : Thread nD τ).loc main_arg0))) (m ((c : Thread nD τ).loc main_arg1))))
        Cert.ReferenceIdeal.Facts₀.shapeCasts_S8192_S2x4096 := by
  have e : at5 m c (Proc.devRef .tc main_v5) = shapeCast S2x4096 (at4 m c (Proc.devRef .tc main_v3_1)) Facts₀.shapeCasts_S8192x1_S2x4096 := rfl
  rw [e, (at4_arr m c 4).trans (nearest_array (ref3 m) c)]
  funext j
  idx_vars j
  pointwise
  rw [near_apply]
  simp only [Cert.ReferenceIdeal.Router.dist_apply]
  exact congrArg (fun d => BitVec.ofNat 32 (nearestOf d).val) (distRow_eq m c _)

end Cert.KernelIdeal.Router

namespace Cert.Value
open Idealize.ShloMosaic Idealize.ShloMosaic.TcCoe Idealize.SL.Sem
open Cert.KernelIdeal.Router

/-- On equal arguments the kernel and the reference, each in exact arithmetic, leave equal results. -/
theorem algebraic : Cert.algebraic_KernelIdeal_ReferenceIdeal := by
  intro m g m' g' _ hagree
  refine ⟨fun c => at5 m c (Proc.devRef .tc Cert.KernelIdeal.main_v4), fun c => at5 m c (Proc.devRef .tc Cert.KernelIdeal.main_v5), ?_, ?_⟩
  · refine (θ_run _ _ _).mono (fun r h c => ?_) (run m g)
    exact ⟨h.1 c _ (by decide), h.1 c _ (by decide), (h.1 c _ (by decide)).trans (at5_arg0 m c),
      (h.1 c _ (by decide)).trans (at5_arg1 m c)⟩
  · have e := fun c => result0 m c
    have e' := fun c => result1 m c
    simp only [e, e']
    hlo_run
    · simp only [StableHlo.TRef.ofBuf_toBuf]
      rfl
    · simp only [StableHlo.TRef.ofBuf_toBuf]
      rfl

end Cert.Value

end
-- ==== Proof.lean ====
/- The claims of this certificate, each from the module that proves it. -/
module

public import proofs.«01_k».proof.Defs
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- Everything claimed of the kernel, its idealization and the reference. -/
theorem claim : Cert.Claim :=
  ⟨Cert.Kernel.Gen.facts, Cert.KernelIdeal.Gen.facts, Cert.ReferenceIdeal.Gen.facts,
    Frames.bits, Frames.ideal, Frames.reference, trivial, Value.algebraic⟩

end Cert.Proof

end
